-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x128x224x224 : Shape := ⟨4, ![3, 128, 224, 224]⟩
abbrev S3x224x224x128 : Shape := ⟨4, ![3, 224, 224, 128]⟩
abbrev S3x32x224x224 : Shape := ⟨4, ![3, 32, 224, 224]⟩
abbrev S224x129 : Shape := ⟨2, ![224, 129]⟩
abbrev S32x224 : Shape := ⟨2, ![32, 224]⟩
abbrev S_ : Shape := ⟨0, ![]⟩
abbrev S224x128 : Shape := ⟨2, ![224, 128]⟩
abbrev S1x1x224x128 : Shape := ⟨4, ![1, 1, 224, 128]⟩
abbrev S16 : Shape := ⟨1, ![16]⟩
abbrev S1x16 : Shape := ⟨2, ![1, 16]⟩
abbrev S1x32x1x224 : Shape := ⟨4, ![1, 32, 1, 224]⟩

abbrev nBuf : Table → Nat
  | .hbm => 3
  | .local .scVector .vmem => 4
  | _ => 0

abbrev bufTy : (tb : Table) → Fin (nBuf tb) → BufTy
  | .hbm, ⟨0, _⟩ => ⟨S3x128x224x224, .f32⟩
  | .hbm, ⟨1, _⟩ => ⟨S3x224x224x128, .f32⟩
  | .hbm, ⟨2, _⟩ => ⟨S3x32x224x224, .f32⟩
  | .local .scVector .vmem, ⟨0, _⟩ => ⟨S224x129, .f32⟩
  | .local .scVector .vmem, ⟨1, _⟩ => ⟨S224x129, .f32⟩
  | .local .scVector .vmem, ⟨2, _⟩ => ⟨S32x224, .f32⟩
  | .local .scVector .vmem, ⟨3, _⟩ => ⟨S32x224, .f32⟩
  | _, _ => ⟨S3x128x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c224_i32 : BitVec 32 := 224#32
  let c0_i32_2 : BitVec 32 := 0#32
  let v10 : BitVec 1 := Scalar.cmpi .sgt c224_i32 c0_i32_2
  let v11 : BitVec 32 := Scalar.extui v10
  let c0_i32_3 : BitVec 32 := 0#32
  let v12 : BitVec 1 := Scalar.cmpi .slt c224_i32 c0_i32_3
  let v13 : BitVec 32 := Scalar.extui v12
  let v14 : BitVec 32 := Scalar.subi v11 v13
  let v15 : BitVec 1 := Scalar.cmpi .ne v9 v14
  let v16 : BitVec 32 := Scalar.remsi v3 c224_i32
  let c0_i32_4 : BitVec 32 := 0#32
  let v17 : BitVec 1 := Scalar.cmpi .ne v16 c0_i32_4
  let v18 : BitVec 1 := Scalar.andi v15 v17
  let v4 : BitVec 32 := Scalar.divsi v3 c224_i32
  let c1_i32 : BitVec 32 := 1#32
  let v19 : BitVec 32 := Scalar.subi v4 c1_i32
  let v20 : BitVec 32 := Scalar.select v18 v19 v4
  let c224_i32_5 : BitVec 32 := 224#32
  let c0_i32_6 : BitVec 32 := 0#32
  let v21 : BitVec 1 := Scalar.cmpi .eq c224_i32_5 c0_i32_6
  let c1_i32_7 : BitVec 32 := 1#32
  let v22 : BitVec 32 := Scalar.select v21 c1_i32_7 c224_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v20.toNat, v30.toNat, 0, 0]
@[reducible] def k0_t1_loop : Scf.Loop 32 :=
  let c0_i32_49 : BitVec 32 := 0#32
  let c32_i32 : BitVec 32 := 32#32
  let v78 : BitVec 32 := Scalar.addi c0_i32_49 c32_i32
  let c1_i32_50 : BitVec 32 := 1#32
  ⟨c0_i32_49, v78, c1_i32_50⟩

def k0_chk1 (v1661 : IVec S16 32) (v1663 : IVec S16 32) : Prop :=
  (∀ a x, ((![v1663, v1661] : Fin 2 → IVec S16 32) a x).toNat < S224x129.size a)
theorem k0_idx1_inb : ∀ (v1661 : IVec S16 32) (v1663 : IVec S16 32) (k0_hw1 : k0_chk1 v1661 v1663), ∀ a x, ((![v1663, v1661] : Fin 2 → IVec S16 32) a x).toNat < S224x129.size a := fun v1661 v1663 k0_hw1 => k0_hw1
def k0_off2 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk2 (v1661 : IVec S16 32) (v1668 : IVec S16 32) : Prop :=
  (∀ a x, ((![v1668, v1661] : Fin 2 → IVec S16 32) a x).toNat < S224x129.size a)
theorem k0_idx2_inb : ∀ (v1661 : IVec S16 32) (v1668 : IVec S16 32) (k0_hw2 : k0_chk2 v1661 v1668), ∀ a x, ((![v1668, v1661] : Fin 2 → IVec S16 32) a x).toNat < S224x129.size a := fun v1661 v1668 k0_hw2 => k0_hw2
def k0_off3 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk3 (v1661 : IVec S16 32) (v1673 : IVec S16 32) : Prop :=
  (∀ a x, ((![v1673, v1661] : Fin 2 → IVec S16 32) a x).toNat < S224x129.size a)
theorem k0_idx3_inb : ∀ (v1661 : IVec S16 32) (v1673 : IVec S16 32) (k0_hw3 : k0_chk3 v1661 v1673), ∀ a x, ((![v1673, v1661] : Fin 2 → IVec S16 32) a x).toNat < S224x129.size a := fun v1661 v1673 k0_hw3 => k0_hw3
def k0_off4 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk4 (v1661 : IVec S16 32) (v1678 : IVec S16 32) : Prop :=
  (∀ a x, ((![v1678, v1661] : Fin 2 → IVec S16 32) a x).toNat < S224x129.size a)
theorem k0_idx4_inb : ∀ (v1661 : IVec S16 32) (v1678 : IVec S16 32) (k0_hw4 : k0_chk4 v1661 v1678), ∀ a x, ((![v1678, v1661] : Fin 2 → IVec S16 32) a x).toNat < S224x129.size a := fun v1661 v1678 k0_hw4 => k0_hw4
def k0_off5 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk5 (v1661 : IVec S16 32) (v1683 : IVec S16 32) : Prop :=
  (∀ a x, ((![v1683, v1661] : Fin 2 → IVec S16 32) a x).toNat < S224x129.size a)
theorem k0_idx5_inb : ∀ (v1661 : IVec S16 32) (v1683 : IVec S16 32) (k0_hw5 : k0_chk5 v1661 v1683), ∀ a x, ((![v1683, v1661] : Fin 2 → IVec S16 32) a x).toNat < S224x129.size a := fun v1661 v1683 k0_hw5 => k0_hw5
def k0_off6 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk6 (v1661 : IVec S16 32) (v1688 : IVec S16 32) : Prop :=
  (∀ a x, ((![v1688, v1661] : Fin 2 → IVec S16 32) a x).toNat < S224x129.size a)
theorem k0_idx6_inb : ∀ (v1661 : IVec S16 32) (v1688 : IVec S16 32) (k0_hw6 : k0_chk6 v1661 v1688), ∀ a x, ((![v1688, v1661] : Fin 2 → IVec S16 32) a x).toNat < S224x129.size a := fun v1661 v1688 k0_hw6 => k0_hw6
def k0_off7 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk7 (v1661 : IVec S16 32) (v1693 : IVec S16 32) : Prop :=
  (∀ a x, ((![v1693, v1661] : Fin 2 → IVec S16 32) a x).toNat < S224x129.size a)
theorem k0_idx7_inb : ∀ (v1661 : IVec S16 32) (v1693 : IVec S16 32) (k0_hw7 : k0_chk7 v1661 v1693), ∀ a x, ((![v1693, v1661] : Fin 2 → IVec S16 32) a x).toNat < S224x129.size a := fun v1661 v1693 k0_hw7 => k0_hw7
def k0_off8 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk8 (v1661 : IVec S16 32) (v1698 : IVec S16 32) : Prop :=
  (∀ a x, ((![v1698, v1661] : Fin 2 → IVec S16 32) a x).toNat < S224x129.size a)
theorem k0_idx8_inb : ∀ (v1661 : IVec S16 32) (v1698 : IVec S16 32) (k0_hw8 : k0_chk8 v1661 v1698), ∀ a x, ((![v1698, v1661] : Fin 2 → IVec S16 32) a x).toNat < S224x129.size a := fun v1661 v1698 k0_hw8 => k0_hw8
def k0_off9 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk9 (v1661 : IVec S16 32) (v1703 : IVec S16 32) : Prop :=
  (∀ a x, ((![v1703, v1661] : Fin 2 → IVec S16 32) a x).toNat < S224x129.size a)
theorem k0_idx9_inb : ∀ (v1661 : IVec S16 32) (v1703 : IVec S16 32) (k0_hw9 : k0_chk9 v1661 v1703), ∀ a x, ((![v1703, v1661] : Fin 2 → IVec S16 32) a x).toNat < S224x129.size a := fun v1661 v1703 k0_hw9 => k0_hw9
def k0_off10 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk10 (v1661 : IVec S16 32) (v1708 : IVec S16 32) : Prop :=
  (∀ a x, ((![v1708, v1661] : Fin 2 → IVec S16 32) a x).toNat < S224x129.size a)
theorem k0_idx10_inb : ∀ (v1661 : IVec S16 32) (v1708 : IVec S16 32) (k0_hw10 : k0_chk10 v1661 v1708), ∀ a x, ((![v1708, v1661] : Fin 2 → IVec S16 32) a x).toNat < S224x129.size a := fun v1661 v1708 k0_hw10 => k0_hw10
def k0_off11 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk11 (v1661 : IVec S16 32) (v1713 : IVec S16 32) : Prop :=
  (∀ a x, ((![v1713, v1661] : Fin 2 → IVec S16 32) a x).toNat < S224x129.size a)
theorem k0_idx11_inb : ∀ (v1661 : IVec S16 32) (v1713 : IVec S16 32) (k0_hw11 : k0_chk11 v1661 v1713), ∀ a x, ((![v1713, v1661] : Fin 2 → IVec S16 32) a x).toNat < S224x129.size a := fun v1661 v1713 k0_hw11 => k0_hw11
def k0_off12 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk12 (v1661 : IVec S16 32) (v1718 : IVec S16 32) : Prop :=
  (∀ a x, ((![v1718, v1661] : Fin 2 → IVec S16 32) a x).toNat < S224x129.size a)
theorem k0_idx12_inb : ∀ (v1661 : IVec S16 32) (v1718 : IVec S16 32) (k0_hw12 : k0_chk12 v1661 v1718), ∀ a x, ((![v1718, v1661] : Fin 2 → IVec S16 32) a x).toNat < S224x129.size a := fun v1661 v1718 k0_hw12 => k0_hw12
def k0_off13 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk13 (v1661 : IVec S16 32) (v1723 : IVec S16 32) : Prop :=
  (∀ a x, ((![v1723, v1661] : Fin 2 → IVec S16 32) a x).toNat < S224x129.size a)
theorem k0_idx13_inb : ∀ (v1661 : IVec S16 32) (v1723 : IVec S16 32) (k0_hw13 : k0_chk13 v1661 v1723), ∀ a x, ((![v1723, v1661] : Fin 2 → IVec S16 32) a x).toNat < S224x129.size a := fun v1661 v1723 k0_hw13 => k0_hw13
def k0_off14 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk14 (v1661 : IVec S16 32) (v1728 : IVec S16 32) : Prop :=
  (∀ a x, ((![v1728, v1661] : Fin 2 → IVec S16 32) a x).toNat < S224x129.size a)
theorem k0_idx14_inb : ∀ (v1661 : IVec S16 32) (v1728 : IVec S16 32) (k0_hw14 : k0_chk14 v1661 v1728), ∀ a x, ((![v1728, v1661] : Fin 2 → IVec S16 32) a x).toNat < S224x129.size a := fun v1661 v1728 k0_hw14 => k0_hw14
def k0_off15 (k0_t1 : Fin k0_t1_loop.trips) : Fin 2 → Nat :=
  let c0_i32_1155 : BitVec 32 := 0#32
  let c0_i32_49 : BitVec 32 := 0#32
  let c1_i32_50 : BitVec 32 := 1#32
  let arg12 : BitVec 32 := Scf.iv c0_i32_49 c1_i32_50 k0_t1
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
def k0_off16 (i : grid0.Coords) (c0_i32_52 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32 : BitVec 32 := 21#32
  let v2 : BitVec 32 := Scalar.muli v1 c21_i32
  let v79 : BitVec 32 := Scalar.addi v2 c0_i32_52
  let c0_i32_54 : BitVec 32 := 0#32
  let v81 : BitVec 1 := Scalar.cmpi .sgt v79 c0_i32_54
  let v82 : BitVec 32 := Scalar.extui v81
  let c0_i32_55 : BitVec 32 := 0#32
  let v83 : BitVec 1 := Scalar.cmpi .slt v79 c0_i32_55
  let v84 : BitVec 32 := Scalar.extui v83
  let v85 : BitVec 32 := Scalar.subi v82 v84
  let c224_i32_53 : BitVec 32 := 224#32
  let c0_i32_56 : BitVec 32 := 0#32
  let v86 : BitVec 1 := Scalar.cmpi .sgt c224_i32_53 c0_i32_56
  let v87 : BitVec 32 := Scalar.extui v86
  let c0_i32_57 : BitVec 32 := 0#32
  let v88 : BitVec 1 := Scalar.cmpi .slt c224_i32_53 c0_i32_57
  let v89 : BitVec 32 := Scalar.extui v88
  let v90 : BitVec 32 := Scalar.subi v87 v89
  let v91 : BitVec 1 := Scalar.cmpi .ne v85 v90
  let v92 : BitVec 32 := Scalar.remsi v79 c224_i32_53
  let c0_i32_58 : BitVec 32 := 0#32
  let v93 : BitVec 1 := Scalar.cmpi .ne v92 c0_i32_58
  let v94 : BitVec 1 := Scalar.andi v91 v93
  let v80 : BitVec 32 := Scalar.divsi v79 c224_i32_53
  let c1_i32_59 : BitVec 32 := 1#32
  let v95 : BitVec 32 := Scalar.subi v80 c1_i32_59
  let v96 : BitVec 32 := Scalar.select v94 v95 v80
  let c0_i32_66 : BitVec 32 := 0#32
  let c224_i32_60 : BitVec 32 := 224#32
  let c0_i32_61 : BitVec 32 := 0#32
  let v97 : BitVec 1 := Scalar.cmpi .eq c224_i32_60 c0_i32_61
  let c1_i32_62 : BitVec 32 := 1#32
  let v98 : BitVec 32 := Scalar.select v97 c1_i32_62 c224_i32_60
  let v99 : BitVec 32 := Scalar.remsi v79 v98
  let c0_i32_64 : BitVec 32 := 0#32
  let v101 : BitVec 1 := Scalar.cmpi .slt v99 c0_i32_64
  let c0_i32_65 : BitVec 32 := 0#32
  let v102 : BitVec 1 := Scalar.cmpi .slt v98 c0_i32_65
  let v103 : BitVec 1 := Scalar.xori v101 v102
  let c0_i32_63 : BitVec 32 := 0#32
  let v100 : BitVec 1 := Scalar.cmpi .ne v99 c0_i32_63
  let v104 : BitVec 1 := Scalar.andi v103 v100
  let v105 : BitVec 32 := Scalar.addi v99 v98
  let v106 : BitVec 32 := Scalar.select v104 v105 v99
  let c0_i32_67 : BitVec 32 := 0#32
  ![v96.toNat, 0, v106.toNat, 0]
@[reducible] def k0_t2_loop : Scf.Loop 32 :=
  let c0_i32_100 : BitVec 32 := 0#32
  let c32_i32_101 : BitVec 32 := 32#32
  let v152 : BitVec 32 := Scalar.addi c0_i32_100 c32_i32_101
  let c1_i32_102 : BitVec 32 := 1#32
  ⟨c0_i32_100, v152, c1_i32_102⟩

def k0_chk15 (v1661 : IVec S16 32) (v1663 : IVec S16 32) : Prop :=
  (∀ a x, ((![v1663, v1661] : Fin 2 → IVec S16 32) a x).toNat < S224x129.size a)
theorem k0_idx15_inb : ∀ (v1661 : IVec S16 32) (v1663 : IVec S16 32) (k0_hw15 : k0_chk15 v1661 v1663), ∀ a x, ((![v1663, v1661] : Fin 2 → IVec S16 32) a x).toNat < S224x129.size a := fun v1661 v1663 k0_hw15 => k0_hw15
def k0_off17 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk16 (v1661 : IVec S16 32) (v1668 : IVec S16 32) : Prop :=
  (∀ a x, ((![v1668, v1661] : Fin 2 → IVec S16 32) a x).toNat < S224x129.size a)
theorem k0_idx16_inb : ∀ (v1661 : IVec S16 32) (v1668 : IVec S16 32) (k0_hw16 : k0_chk16 v1661 v1668), ∀ a x, ((![v1668, v1661] : Fin 2 → IVec S16 32) a x).toNat < S224x129.size a := fun v1661 v1668 k0_hw16 => k0_hw16
def k0_off18 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk17 (v1661 : IVec S16 32) (v1673 : IVec S16 32) : Prop :=
  (∀ a x, ((![v1673, v1661] : Fin 2 → IVec S16 32) a x).toNat < S224x129.size a)
theorem k0_idx17_inb : ∀ (v1661 : IVec S16 32) (v1673 : IVec S16 32) (k0_hw17 : k0_chk17 v1661 v1673), ∀ a x, ((![v1673, v1661] : Fin 2 → IVec S16 32) a x).toNat < S224x129.size a := fun v1661 v1673 k0_hw17 => k0_hw17
def k0_off19 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk18 (v1661 : IVec S16 32) (v1678 : IVec S16 32) : Prop :=
  (∀ a x, ((![v1678, v1661] : Fin 2 → IVec S16 32) a x).toNat < S224x129.size a)
theorem k0_idx18_inb : ∀ (v1661 : IVec S16 32) (v1678 : IVec S16 32) (k0_hw18 : k0_chk18 v1661 v1678), ∀ a x, ((![v1678, v1661] : Fin 2 → IVec S16 32) a x).toNat < S224x129.size a := fun v1661 v1678 k0_hw18 => k0_hw18
def k0_off20 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk19 (v1661 : IVec S16 32) (v1683 : IVec S16 32) : Prop :=
  (∀ a x, ((![v1683, v1661] : Fin 2 → IVec S16 32) a x).toNat < S224x129.size a)
theorem k0_idx19_inb : ∀ (v1661 : IVec S16 32) (v1683 : IVec S16 32) (k0_hw19 : k0_chk19 v1661 v1683), ∀ a x, ((![v1683, v1661] : Fin 2 → IVec S16 32) a x).toNat < S224x129.size a := fun v1661 v1683 k0_hw19 => k0_hw19
def k0_off21 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk20 (v1661 : IVec S16 32) (v1688 : IVec S16 32) : Prop :=
  (∀ a x, ((![v1688, v1661] : Fin 2 → IVec S16 32) a x).toNat < S224x129.size a)
theorem k0_idx20_inb : ∀ (v1661 : IVec S16 32) (v1688 : IVec S16 32) (k0_hw20 : k0_chk20 v1661 v1688), ∀ a x, ((![v1688, v1661] : Fin 2 → IVec S16 32) a x).toNat < S224x129.size a := fun v1661 v1688 k0_hw20 => k0_hw20
def k0_off22 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk21 (v1661 : IVec S16 32) (v1693 : IVec S16 32) : Prop :=
  (∀ a x, ((![v1693, v1661] : Fin 2 → IVec S16 32) a x).toNat < S224x129.size a)
theorem k0_idx21_inb : ∀ (v1661 : IVec S16 32) (v1693 : IVec S16 32) (k0_hw21 : k0_chk21 v1661 v1693), ∀ a x, ((![v1693, v1661] : Fin 2 → IVec S16 32) a x).toNat < S224x129.size a := fun v1661 v1693 k0_hw21 => k0_hw21
def k0_off23 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk22 (v1661 : IVec S16 32) (v1698 : IVec S16 32) : Prop :=
  (∀ a x, ((![v1698, v1661] : Fin 2 → IVec S16 32) a x).toNat < S224x129.size a)
theorem k0_idx22_inb : ∀ (v1661 : IVec S16 32) (v1698 : IVec S16 32) (k0_hw22 : k0_chk22 v1661 v1698), ∀ a x, ((![v1698, v1661] : Fin 2 → IVec S16 32) a x).toNat < S224x129.size a := fun v1661 v1698 k0_hw22 => k0_hw22
def k0_off24 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk23 (v1661 : IVec S16 32) (v1703 : IVec S16 32) : Prop :=
  (∀ a x, ((![v1703, v1661] : Fin 2 → IVec S16 32) a x).toNat < S224x129.size a)
theorem k0_idx23_inb : ∀ (v1661 : IVec S16 32) (v1703 : IVec S16 32) (k0_hw23 : k0_chk23 v1661 v1703), ∀ a x, ((![v1703, v1661] : Fin 2 → IVec S16 32) a x).toNat < S224x129.size a := fun v1661 v1703 k0_hw23 => k0_hw23
def k0_off25 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk24 (v1661 : IVec S16 32) (v1708 : IVec S16 32) : Prop :=
  (∀ a x, ((![v1708, v1661] : Fin 2 → IVec S16 32) a x).toNat < S224x129.size a)
theorem k0_idx24_inb : ∀ (v1661 : IVec S16 32) (v1708 : IVec S16 32) (k0_hw24 : k0_chk24 v1661 v1708), ∀ a x, ((![v1708, v1661] : Fin 2 → IVec S16 32) a x).toNat < S224x129.size a := fun v1661 v1708 k0_hw24 => k0_hw24
def k0_off26 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk25 (v1661 : IVec S16 32) (v1713 : IVec S16 32) : Prop :=
  (∀ a x, ((![v1713, v1661] : Fin 2 → IVec S16 32) a x).toNat < S224x129.size a)
theorem k0_idx25_inb : ∀ (v1661 : IVec S16 32) (v1713 : IVec S16 32) (k0_hw25 : k0_chk25 v1661 v1713), ∀ a x, ((![v1713, v1661] : Fin 2 → IVec S16 32) a x).toNat < S224x129.size a := fun v1661 v1713 k0_hw25 => k0_hw25
def k0_off27 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk26 (v1661 : IVec S16 32) (v1718 : IVec S16 32) : Prop :=
  (∀ a x, ((![v1718, v1661] : Fin 2 → IVec S16 32) a x).toNat < S224x129.size a)
theorem k0_idx26_inb : ∀ (v1661 : IVec S16 32) (v1718 : IVec S16 32) (k0_hw26 : k0_chk26 v1661 v1718), ∀ a x, ((![v1718, v1661] : Fin 2 → IVec S16 32) a x).toNat < S224x129.size a := fun v1661 v1718 k0_hw26 => k0_hw26
def k0_off28 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk27 (v1661 : IVec S16 32) (v1723 : IVec S16 32) : Prop :=
  (∀ a x, ((![v1723, v1661] : Fin 2 → IVec S16 32) a x).toNat < S224x129.size a)
theorem k0_idx27_inb : ∀ (v1661 : IVec S16 32) (v1723 : IVec S16 32) (k0_hw27 : k0_chk27 v1661 v1723), ∀ a x, ((![v1723, v1661] : Fin 2 → IVec S16 32) a x).toNat < S224x129.size a := fun v1661 v1723 k0_hw27 => k0_hw27
def k0_off29 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk28 (v1661 : IVec S16 32) (v1728 : IVec S16 32) : Prop :=
  (∀ a x, ((![v1728, v1661] : Fin 2 → IVec S16 32) a x).toNat < S224x129.size a)
theorem k0_idx28_inb : ∀ (v1661 : IVec S16 32) (v1728 : IVec S16 32) (k0_hw28 : k0_chk28 v1661 v1728), ∀ a x, ((![v1728, v1661] : Fin 2 → IVec S16 32) a x).toNat < S224x129.size a := fun v1661 v1728 k0_hw28 => k0_hw28
def k0_off30 (k0_t2 : Fin k0_t2_loop.trips) : Fin 2 → Nat :=
  let c0_i32_1155 : BitVec 32 := 0#32
  let c0_i32_100 : BitVec 32 := 0#32
  let c1_i32_102 : BitVec 32 := 1#32
  let arg12 : BitVec 32 := Scf.iv c0_i32_100 c1_i32_102 k0_t2
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t3_loop : Scf.Loop 32 :=
  let c0_i32_155 : BitVec 32 := 0#32
  let c32_i32_156 : BitVec 32 := 32#32
  let v230 : BitVec 32 := Scalar.addi c0_i32_155 c32_i32_156
  let c1_i32_157 : BitVec 32 := 1#32
  ⟨c0_i32_155, v230, c1_i32_157⟩

def k0_chk29 (v1661 : IVec S16 32) (v1663 : IVec S16 32) : Prop :=
  (∀ a x, ((![v1663, v1661] : Fin 2 → IVec S16 32) a x).toNat < S224x129.size a)
theorem k0_idx29_inb : ∀ (v1661 : IVec S16 32) (v1663 : IVec S16 32) (k0_hw29 : k0_chk29 v1661 v1663), ∀ a x, ((![v1663, v1661] : Fin 2 → IVec S16 32) a x).toNat < S224x129.size a := fun v1661 v1663 k0_hw29 => k0_hw29
def k0_off31 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk30 (v1661 : IVec S16 32) (v1668 : IVec S16 32) : Prop :=
  (∀ a x, ((![v1668, v1661] : Fin 2 → IVec S16 32) a x).toNat < S224x129.size a)
theorem k0_idx30_inb : ∀ (v1661 : IVec S16 32) (v1668 : IVec S16 32) (k0_hw30 : k0_chk30 v1661 v1668), ∀ a x, ((![v1668, v1661] : Fin 2 → IVec S16 32) a x).toNat < S224x129.size a := fun v1661 v1668 k0_hw30 => k0_hw30
def k0_off32 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk31 (v1661 : IVec S16 32) (v1673 : IVec S16 32) : Prop :=
  (∀ a x, ((![v1673, v1661] : Fin 2 → IVec S16 32) a x).toNat < S224x129.size a)
theorem k0_idx31_inb : ∀ (v1661 : IVec S16 32) (v1673 : IVec S16 32) (k0_hw31 : k0_chk31 v1661 v1673), ∀ a x, ((![v1673, v1661] : Fin 2 → IVec S16 32) a x).toNat < S224x129.size a := fun v1661 v1673 k0_hw31 => k0_hw31
def k0_off33 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk32 (v1661 : IVec S16 32) (v1678 : IVec S16 32) : Prop :=
  (∀ a x, ((![v1678, v1661] : Fin 2 → IVec S16 32) a x).toNat < S224x129.size a)
theorem k0_idx32_inb : ∀ (v1661 : IVec S16 32) (v1678 : IVec S16 32) (k0_hw32 : k0_chk32 v1661 v1678), ∀ a x, ((![v1678, v1661] : Fin 2 → IVec S16 32) a x).toNat < S224x129.size a := fun v1661 v1678 k0_hw32 => k0_hw32
def k0_off34 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk33 (v1661 : IVec S16 32) (v1683 : IVec S16 32) : Prop :=
  (∀ a x, ((![v1683, v1661] : Fin 2 → IVec S16 32) a x).toNat < S224x129.size a)
theorem k0_idx33_inb : ∀ (v1661 : IVec S16 32) (v1683 : IVec S16 32) (k0_hw33 : k0_chk33 v1661 v1683), ∀ a x, ((![v1683, v1661] : Fin 2 → IVec S16 32) a x).toNat < S224x129.size a := fun v1661 v1683 k0_hw33 => k0_hw33
def k0_off35 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk34 (v1661 : IVec S16 32) (v1688 : IVec S16 32) : Prop :=
  (∀ a x, ((![v1688, v1661] : Fin 2 → IVec S16 32) a x).toNat < S224x129.size a)
theorem k0_idx34_inb : ∀ (v1661 : IVec S16 32) (v1688 : IVec S16 32) (k0_hw34 : k0_chk34 v1661 v1688), ∀ a x, ((![v1688, v1661] : Fin 2 → IVec S16 32) a x).toNat < S224x129.size a := fun v1661 v1688 k0_hw34 => k0_hw34
def k0_off36 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk35 (v1661 : IVec S16 32) (v1693 : IVec S16 32) : Prop :=
  (∀ a x, ((![v1693, v1661] : Fin 2 → IVec S16 32) a x).toNat < S224x129.size a)
theorem k0_idx35_inb : ∀ (v1661 : IVec S16 32) (v1693 : IVec S16 32) (k0_hw35 : k0_chk35 v1661 v1693), ∀ a x, ((![v1693, v1661] : Fin 2 → IVec S16 32) a x).toNat < S224x129.size a := fun v1661 v1693 k0_hw35 => k0_hw35
def k0_off37 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk36 (v1661 : IVec S16 32) (v1698 : IVec S16 32) : Prop :=
  (∀ a x, ((![v1698, v1661] : Fin 2 → IVec S16 32) a x).toNat < S224x129.size a)
theorem k0_idx36_inb : ∀ (v1661 : IVec S16 32) (v1698 : IVec S16 32) (k0_hw36 : k0_chk36 v1661 v1698), ∀ a x, ((![v1698, v1661] : Fin 2 → IVec S16 32) a x).toNat < S224x129.size a := fun v1661 v1698 k0_hw36 => k0_hw36
def k0_off38 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk37 (v1661 : IVec S16 32) (v1703 : IVec S16 32) : Prop :=
  (∀ a x, ((![v1703, v1661] : Fin 2 → IVec S16 32) a x).toNat < S224x129.size a)
theorem k0_idx37_inb : ∀ (v1661 : IVec S16 32) (v1703 : IVec S16 32) (k0_hw37 : k0_chk37 v1661 v1703), ∀ a x, ((![v1703, v1661] : Fin 2 → IVec S16 32) a x).toNat < S224x129.size a := fun v1661 v1703 k0_hw37 => k0_hw37
def k0_off39 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk38 (v1661 : IVec S16 32) (v1708 : IVec S16 32) : Prop :=
  (∀ a x, ((![v1708, v1661] : Fin 2 → IVec S16 32) a x).toNat < S224x129.size a)
theorem k0_idx38_inb : ∀ (v1661 : IVec S16 32) (v1708 : IVec S16 32) (k0_hw38 : k0_chk38 v1661 v1708), ∀ a x, ((![v1708, v1661] : Fin 2 → IVec S16 32) a x).toNat < S224x129.size a := fun v1661 v1708 k0_hw38 => k0_hw38
def k0_off40 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk39 (v1661 : IVec S16 32) (v1713 : IVec S16 32) : Prop :=
  (∀ a x, ((![v1713, v1661] : Fin 2 → IVec S16 32) a x).toNat < S224x129.size a)
theorem k0_idx39_inb : ∀ (v1661 : IVec S16 32) (v1713 : IVec S16 32) (k0_hw39 : k0_chk39 v1661 v1713), ∀ a x, ((![v1713, v1661] : Fin 2 → IVec S16 32) a x).toNat < S224x129.size a := fun v1661 v1713 k0_hw39 => k0_hw39
def k0_off41 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk40 (v1661 : IVec S16 32) (v1718 : IVec S16 32) : Prop :=
  (∀ a x, ((![v1718, v1661] : Fin 2 → IVec S16 32) a x).toNat < S224x129.size a)
theorem k0_idx40_inb : ∀ (v1661 : IVec S16 32) (v1718 : IVec S16 32) (k0_hw40 : k0_chk40 v1661 v1718), ∀ a x, ((![v1718, v1661] : Fin 2 → IVec S16 32) a x).toNat < S224x129.size a := fun v1661 v1718 k0_hw40 => k0_hw40
def k0_off42 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk41 (v1661 : IVec S16 32) (v1723 : IVec S16 32) : Prop :=
  (∀ a x, ((![v1723, v1661] : Fin 2 → IVec S16 32) a x).toNat < S224x129.size a)
theorem k0_idx41_inb : ∀ (v1661 : IVec S16 32) (v1723 : IVec S16 32) (k0_hw41 : k0_chk41 v1661 v1723), ∀ a x, ((![v1723, v1661] : Fin 2 → IVec S16 32) a x).toNat < S224x129.size a := fun v1661 v1723 k0_hw41 => k0_hw41
def k0_off43 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk42 (v1661 : IVec S16 32) (v1728 : IVec S16 32) : Prop :=
  (∀ a x, ((![v1728, v1661] : Fin 2 → IVec S16 32) a x).toNat < S224x129.size a)
theorem k0_idx42_inb : ∀ (v1661 : IVec S16 32) (v1728 : IVec S16 32) (k0_hw42 : k0_chk42 v1661 v1728), ∀ a x, ((![v1728, v1661] : Fin 2 → IVec S16 32) a x).toNat < S224x129.size a := fun v1661 v1728 k0_hw42 => k0_hw42
def k0_off44 (k0_t3 : Fin k0_t3_loop.trips) : Fin 2 → Nat :=
  let c0_i32_1155 : BitVec 32 := 0#32
  let c0_i32_155 : BitVec 32 := 0#32
  let c1_i32_157 : BitVec 32 := 1#32
  let arg12 : BitVec 32 := Scf.iv c0_i32_155 c1_i32_157 k0_t3
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t4_loop : Scf.Loop 32 :=
  let c0_i32_210 : BitVec 32 := 0#32
  let c32_i32_211 : BitVec 32 := 32#32
  let v308 : BitVec 32 := Scalar.addi c0_i32_210 c32_i32_211
  let c1_i32_212 : BitVec 32 := 1#32
  ⟨c0_i32_210, v308, c1_i32_212⟩

def k0_chk43 (v1661 : IVec S16 32) (v1663 : IVec S16 32) : Prop :=
  (∀ a x, ((![v1663, v1661] : Fin 2 → IVec S16 32) a x).toNat < S224x129.size a)
theorem k0_idx43_inb : ∀ (v1661 : IVec S16 32) (v1663 : IVec S16 32) (k0_hw43 : k0_chk43 v1661 v1663), ∀ a x, ((![v1663, v1661] : Fin 2 → IVec S16 32) a x).toNat < S224x129.size a := fun v1661 v1663 k0_hw43 => k0_hw43
def k0_off45 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk44 (v1661 : IVec S16 32) (v1668 : IVec S16 32) : Prop :=
  (∀ a x, ((![v1668, v1661] : Fin 2 → IVec S16 32) a x).toNat < S224x129.size a)
theorem k0_idx44_inb : ∀ (v1661 : IVec S16 32) (v1668 : IVec S16 32) (k0_hw44 : k0_chk44 v1661 v1668), ∀ a x, ((![v1668, v1661] : Fin 2 → IVec S16 32) a x).toNat < S224x129.size a := fun v1661 v1668 k0_hw44 => k0_hw44
def k0_off46 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk45 (v1661 : IVec S16 32) (v1673 : IVec S16 32) : Prop :=
  (∀ a x, ((![v1673, v1661] : Fin 2 → IVec S16 32) a x).toNat < S224x129.size a)
theorem k0_idx45_inb : ∀ (v1661 : IVec S16 32) (v1673 : IVec S16 32) (k0_hw45 : k0_chk45 v1661 v1673), ∀ a x, ((![v1673, v1661] : Fin 2 → IVec S16 32) a x).toNat < S224x129.size a := fun v1661 v1673 k0_hw45 => k0_hw45
def k0_off47 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk46 (v1661 : IVec S16 32) (v1678 : IVec S16 32) : Prop :=
  (∀ a x, ((![v1678, v1661] : Fin 2 → IVec S16 32) a x).toNat < S224x129.size a)
theorem k0_idx46_inb : ∀ (v1661 : IVec S16 32) (v1678 : IVec S16 32) (k0_hw46 : k0_chk46 v1661 v1678), ∀ a x, ((![v1678, v1661] : Fin 2 → IVec S16 32) a x).toNat < S224x129.size a := fun v1661 v1678 k0_hw46 => k0_hw46
def k0_off48 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk47 (v1661 : IVec S16 32) (v1683 : IVec S16 32) : Prop :=
  (∀ a x, ((![v1683, v1661] : Fin 2 → IVec S16 32) a x).toNat < S224x129.size a)
theorem k0_idx47_inb : ∀ (v1661 : IVec S16 32) (v1683 : IVec S16 32) (k0_hw47 : k0_chk47 v1661 v1683), ∀ a x, ((![v1683, v1661] : Fin 2 → IVec S16 32) a x).toNat < S224x129.size a := fun v1661 v1683 k0_hw47 => k0_hw47
def k0_off49 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk48 (v1661 : IVec S16 32) (v1688 : IVec S16 32) : Prop :=
  (∀ a x, ((![v1688, v1661] : Fin 2 → IVec S16 32) a x).toNat < S224x129.size a)
theorem k0_idx48_inb : ∀ (v1661 : IVec S16 32) (v1688 : IVec S16 32) (k0_hw48 : k0_chk48 v1661 v1688), ∀ a x, ((![v1688, v1661] : Fin 2 → IVec S16 32) a x).toNat < S224x129.size a := fun v1661 v1688 k0_hw48 => k0_hw48
def k0_off50 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk49 (v1661 : IVec S16 32) (v1693 : IVec S16 32) : Prop :=
  (∀ a x, ((![v1693, v1661] : Fin 2 → IVec S16 32) a x).toNat < S224x129.size a)
theorem k0_idx49_inb : ∀ (v1661 : IVec S16 32) (v1693 : IVec S16 32) (k0_hw49 : k0_chk49 v1661 v1693), ∀ a x, ((![v1693, v1661] : Fin 2 → IVec S16 32) a x).toNat < S224x129.size a := fun v1661 v1693 k0_hw49 => k0_hw49
def k0_off51 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk50 (v1661 : IVec S16 32) (v1698 : IVec S16 32) : Prop :=
  (∀ a x, ((![v1698, v1661] : Fin 2 → IVec S16 32) a x).toNat < S224x129.size a)
theorem k0_idx50_inb : ∀ (v1661 : IVec S16 32) (v1698 : IVec S16 32) (k0_hw50 : k0_chk50 v1661 v1698), ∀ a x, ((![v1698, v1661] : Fin 2 → IVec S16 32) a x).toNat < S224x129.size a := fun v1661 v1698 k0_hw50 => k0_hw50
def k0_off52 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk51 (v1661 : IVec S16 32) (v1703 : IVec S16 32) : Prop :=
  (∀ a x, ((![v1703, v1661] : Fin 2 → IVec S16 32) a x).toNat < S224x129.size a)
theorem k0_idx51_inb : ∀ (v1661 : IVec S16 32) (v1703 : IVec S16 32) (k0_hw51 : k0_chk51 v1661 v1703), ∀ a x, ((![v1703, v1661] : Fin 2 → IVec S16 32) a x).toNat < S224x129.size a := fun v1661 v1703 k0_hw51 => k0_hw51
def k0_off53 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk52 (v1661 : IVec S16 32) (v1708 : IVec S16 32) : Prop :=
  (∀ a x, ((![v1708, v1661] : Fin 2 → IVec S16 32) a x).toNat < S224x129.size a)
theorem k0_idx52_inb : ∀ (v1661 : IVec S16 32) (v1708 : IVec S16 32) (k0_hw52 : k0_chk52 v1661 v1708), ∀ a x, ((![v1708, v1661] : Fin 2 → IVec S16 32) a x).toNat < S224x129.size a := fun v1661 v1708 k0_hw52 => k0_hw52
def k0_off54 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk53 (v1661 : IVec S16 32) (v1713 : IVec S16 32) : Prop :=
  (∀ a x, ((![v1713, v1661] : Fin 2 → IVec S16 32) a x).toNat < S224x129.size a)
theorem k0_idx53_inb : ∀ (v1661 : IVec S16 32) (v1713 : IVec S16 32) (k0_hw53 : k0_chk53 v1661 v1713), ∀ a x, ((![v1713, v1661] : Fin 2 → IVec S16 32) a x).toNat < S224x129.size a := fun v1661 v1713 k0_hw53 => k0_hw53
def k0_off55 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk54 (v1661 : IVec S16 32) (v1718 : IVec S16 32) : Prop :=
  (∀ a x, ((![v1718, v1661] : Fin 2 → IVec S16 32) a x).toNat < S224x129.size a)
theorem k0_idx54_inb : ∀ (v1661 : IVec S16 32) (v1718 : IVec S16 32) (k0_hw54 : k0_chk54 v1661 v1718), ∀ a x, ((![v1718, v1661] : Fin 2 → IVec S16 32) a x).toNat < S224x129.size a := fun v1661 v1718 k0_hw54 => k0_hw54
def k0_off56 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk55 (v1661 : IVec S16 32) (v1723 : IVec S16 32) : Prop :=
  (∀ a x, ((![v1723, v1661] : Fin 2 → IVec S16 32) a x).toNat < S224x129.size a)
theorem k0_idx55_inb : ∀ (v1661 : IVec S16 32) (v1723 : IVec S16 32) (k0_hw55 : k0_chk55 v1661 v1723), ∀ a x, ((![v1723, v1661] : Fin 2 → IVec S16 32) a x).toNat < S224x129.size a := fun v1661 v1723 k0_hw55 => k0_hw55
def k0_off57 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk56 (v1661 : IVec S16 32) (v1728 : IVec S16 32) : Prop :=
  (∀ a x, ((![v1728, v1661] : Fin 2 → IVec S16 32) a x).toNat < S224x129.size a)
theorem k0_idx56_inb : ∀ (v1661 : IVec S16 32) (v1728 : IVec S16 32) (k0_hw56 : k0_chk56 v1661 v1728), ∀ a x, ((![v1728, v1661] : Fin 2 → IVec S16 32) a x).toNat < S224x129.size a := fun v1661 v1728 k0_hw56 => k0_hw56
def k0_off58 (k0_t4 : Fin k0_t4_loop.trips) : Fin 2 → Nat :=
  let c0_i32_1155 : BitVec 32 := 0#32
  let c0_i32_210 : BitVec 32 := 0#32
  let c1_i32_212 : BitVec 32 := 1#32
  let arg12 : BitVec 32 := Scf.iv c0_i32_210 c1_i32_212 k0_t4
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t5_loop : Scf.Loop 32 :=
  let c0_i32_265 : BitVec 32 := 0#32
  let c32_i32_266 : BitVec 32 := 32#32
  let v386 : BitVec 32 := Scalar.addi c0_i32_265 c32_i32_266
  let c1_i32_267 : BitVec 32 := 1#32
  ⟨c0_i32_265, v386, c1_i32_267⟩

def k0_chk57 (v1661 : IVec S16 32) (v1663 : IVec S16 32) : Prop :=
  (∀ a x, ((![v1663, v1661] : Fin 2 → IVec S16 32) a x).toNat < S224x129.size a)
theorem k0_idx57_inb : ∀ (v1661 : IVec S16 32) (v1663 : IVec S16 32) (k0_hw57 : k0_chk57 v1661 v1663), ∀ a x, ((![v1663, v1661] : Fin 2 → IVec S16 32) a x).toNat < S224x129.size a := fun v1661 v1663 k0_hw57 => k0_hw57
def k0_off59 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk58 (v1661 : IVec S16 32) (v1668 : IVec S16 32) : Prop :=
  (∀ a x, ((![v1668, v1661] : Fin 2 → IVec S16 32) a x).toNat < S224x129.size a)
theorem k0_idx58_inb : ∀ (v1661 : IVec S16 32) (v1668 : IVec S16 32) (k0_hw58 : k0_chk58 v1661 v1668), ∀ a x, ((![v1668, v1661] : Fin 2 → IVec S16 32) a x).toNat < S224x129.size a := fun v1661 v1668 k0_hw58 => k0_hw58
def k0_off60 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk59 (v1661 : IVec S16 32) (v1673 : IVec S16 32) : Prop :=
  (∀ a x, ((![v1673, v1661] : Fin 2 → IVec S16 32) a x).toNat < S224x129.size a)
theorem k0_idx59_inb : ∀ (v1661 : IVec S16 32) (v1673 : IVec S16 32) (k0_hw59 : k0_chk59 v1661 v1673), ∀ a x, ((![v1673, v1661] : Fin 2 → IVec S16 32) a x).toNat < S224x129.size a := fun v1661 v1673 k0_hw59 => k0_hw59
def k0_off61 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk60 (v1661 : IVec S16 32) (v1678 : IVec S16 32) : Prop :=
  (∀ a x, ((![v1678, v1661] : Fin 2 → IVec S16 32) a x).toNat < S224x129.size a)
theorem k0_idx60_inb : ∀ (v1661 : IVec S16 32) (v1678 : IVec S16 32) (k0_hw60 : k0_chk60 v1661 v1678), ∀ a x, ((![v1678, v1661] : Fin 2 → IVec S16 32) a x).toNat < S224x129.size a := fun v1661 v1678 k0_hw60 => k0_hw60
def k0_off62 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk61 (v1661 : IVec S16 32) (v1683 : IVec S16 32) : Prop :=
  (∀ a x, ((![v1683, v1661] : Fin 2 → IVec S16 32) a x).toNat < S224x129.size a)
theorem k0_idx61_inb : ∀ (v1661 : IVec S16 32) (v1683 : IVec S16 32) (k0_hw61 : k0_chk61 v1661 v1683), ∀ a x, ((![v1683, v1661] : Fin 2 → IVec S16 32) a x).toNat < S224x129.size a := fun v1661 v1683 k0_hw61 => k0_hw61
def k0_off63 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk62 (v1661 : IVec S16 32) (v1688 : IVec S16 32) : Prop :=
  (∀ a x, ((![v1688, v1661] : Fin 2 → IVec S16 32) a x).toNat < S224x129.size a)
theorem k0_idx62_inb : ∀ (v1661 : IVec S16 32) (v1688 : IVec S16 32) (k0_hw62 : k0_chk62 v1661 v1688), ∀ a x, ((![v1688, v1661] : Fin 2 → IVec S16 32) a x).toNat < S224x129.size a := fun v1661 v1688 k0_hw62 => k0_hw62
def k0_off64 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk63 (v1661 : IVec S16 32) (v1693 : IVec S16 32) : Prop :=
  (∀ a x, ((![v1693, v1661] : Fin 2 → IVec S16 32) a x).toNat < S224x129.size a)
theorem k0_idx63_inb : ∀ (v1661 : IVec S16 32) (v1693 : IVec S16 32) (k0_hw63 : k0_chk63 v1661 v1693), ∀ a x, ((![v1693, v1661] : Fin 2 → IVec S16 32) a x).toNat < S224x129.size a := fun v1661 v1693 k0_hw63 => k0_hw63
def k0_off65 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk64 (v1661 : IVec S16 32) (v1698 : IVec S16 32) : Prop :=
  (∀ a x, ((![v1698, v1661] : Fin 2 → IVec S16 32) a x).toNat < S224x129.size a)
theorem k0_idx64_inb : ∀ (v1661 : IVec S16 32) (v1698 : IVec S16 32) (k0_hw64 : k0_chk64 v1661 v1698), ∀ a x, ((![v1698, v1661] : Fin 2 → IVec S16 32) a x).toNat < S224x129.size a := fun v1661 v1698 k0_hw64 => k0_hw64
def k0_off66 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk65 (v1661 : IVec S16 32) (v1703 : IVec S16 32) : Prop :=
  (∀ a x, ((![v1703, v1661] : Fin 2 → IVec S16 32) a x).toNat < S224x129.size a)
theorem k0_idx65_inb : ∀ (v1661 : IVec S16 32) (v1703 : IVec S16 32) (k0_hw65 : k0_chk65 v1661 v1703), ∀ a x, ((![v1703, v1661] : Fin 2 → IVec S16 32) a x).toNat < S224x129.size a := fun v1661 v1703 k0_hw65 => k0_hw65
def k0_off67 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk66 (v1661 : IVec S16 32) (v1708 : IVec S16 32) : Prop :=
  (∀ a x, ((![v1708, v1661] : Fin 2 → IVec S16 32) a x).toNat < S224x129.size a)
theorem k0_idx66_inb : ∀ (v1661 : IVec S16 32) (v1708 : IVec S16 32) (k0_hw66 : k0_chk66 v1661 v1708), ∀ a x, ((![v1708, v1661] : Fin 2 → IVec S16 32) a x).toNat < S224x129.size a := fun v1661 v1708 k0_hw66 => k0_hw66
def k0_off68 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk67 (v1661 : IVec S16 32) (v1713 : IVec S16 32) : Prop :=
  (∀ a x, ((![v1713, v1661] : Fin 2 → IVec S16 32) a x).toNat < S224x129.size a)
theorem k0_idx67_inb : ∀ (v1661 : IVec S16 32) (v1713 : IVec S16 32) (k0_hw67 : k0_chk67 v1661 v1713), ∀ a x, ((![v1713, v1661] : Fin 2 → IVec S16 32) a x).toNat < S224x129.size a := fun v1661 v1713 k0_hw67 => k0_hw67
def k0_off69 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk68 (v1661 : IVec S16 32) (v1718 : IVec S16 32) : Prop :=
  (∀ a x, ((![v1718, v1661] : Fin 2 → IVec S16 32) a x).toNat < S224x129.size a)
theorem k0_idx68_inb : ∀ (v1661 : IVec S16 32) (v1718 : IVec S16 32) (k0_hw68 : k0_chk68 v1661 v1718), ∀ a x, ((![v1718, v1661] : Fin 2 → IVec S16 32) a x).toNat < S224x129.size a := fun v1661 v1718 k0_hw68 => k0_hw68
def k0_off70 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk69 (v1661 : IVec S16 32) (v1723 : IVec S16 32) : Prop :=
  (∀ a x, ((![v1723, v1661] : Fin 2 → IVec S16 32) a x).toNat < S224x129.size a)
theorem k0_idx69_inb : ∀ (v1661 : IVec S16 32) (v1723 : IVec S16 32) (k0_hw69 : k0_chk69 v1661 v1723), ∀ a x, ((![v1723, v1661] : Fin 2 → IVec S16 32) a x).toNat < S224x129.size a := fun v1661 v1723 k0_hw69 => k0_hw69
def k0_off71 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk70 (v1661 : IVec S16 32) (v1728 : IVec S16 32) : Prop :=
  (∀ a x, ((![v1728, v1661] : Fin 2 → IVec S16 32) a x).toNat < S224x129.size a)
theorem k0_idx70_inb : ∀ (v1661 : IVec S16 32) (v1728 : IVec S16 32) (k0_hw70 : k0_chk70 v1661 v1728), ∀ a x, ((![v1728, v1661] : Fin 2 → IVec S16 32) a x).toNat < S224x129.size a := fun v1661 v1728 k0_hw70 => k0_hw70
def k0_off72 (k0_t5 : Fin k0_t5_loop.trips) : Fin 2 → Nat :=
  let c0_i32_1155 : BitVec 32 := 0#32
  let c0_i32_265 : BitVec 32 := 0#32
  let c1_i32_267 : BitVec 32 := 1#32
  let arg12 : BitVec 32 := Scf.iv c0_i32_265 c1_i32_267 k0_t5
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t6_loop : Scf.Loop 32 :=
  let c0_i32_320 : BitVec 32 := 0#32
  let c32_i32_321 : BitVec 32 := 32#32
  let v464 : BitVec 32 := Scalar.addi c0_i32_320 c32_i32_321
  let c1_i32_322 : BitVec 32 := 1#32
  ⟨c0_i32_320, v464, c1_i32_322⟩

def k0_chk71 (v1661 : IVec S16 32) (v1663 : IVec S16 32) : Prop :=
  (∀ a x, ((![v1663, v1661] : Fin 2 → IVec S16 32) a x).toNat < S224x129.size a)
theorem k0_idx71_inb : ∀ (v1661 : IVec S16 32) (v1663 : IVec S16 32) (k0_hw71 : k0_chk71 v1661 v1663), ∀ a x, ((![v1663, v1661] : Fin 2 → IVec S16 32) a x).toNat < S224x129.size a := fun v1661 v1663 k0_hw71 => k0_hw71
def k0_off73 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk72 (v1661 : IVec S16 32) (v1668 : IVec S16 32) : Prop :=
  (∀ a x, ((![v1668, v1661] : Fin 2 → IVec S16 32) a x).toNat < S224x129.size a)
theorem k0_idx72_inb : ∀ (v1661 : IVec S16 32) (v1668 : IVec S16 32) (k0_hw72 : k0_chk72 v1661 v1668), ∀ a x, ((![v1668, v1661] : Fin 2 → IVec S16 32) a x).toNat < S224x129.size a := fun v1661 v1668 k0_hw72 => k0_hw72
def k0_off74 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk73 (v1661 : IVec S16 32) (v1673 : IVec S16 32) : Prop :=
  (∀ a x, ((![v1673, v1661] : Fin 2 → IVec S16 32) a x).toNat < S224x129.size a)
theorem k0_idx73_inb : ∀ (v1661 : IVec S16 32) (v1673 : IVec S16 32) (k0_hw73 : k0_chk73 v1661 v1673), ∀ a x, ((![v1673, v1661] : Fin 2 → IVec S16 32) a x).toNat < S224x129.size a := fun v1661 v1673 k0_hw73 => k0_hw73
def k0_off75 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk74 (v1661 : IVec S16 32) (v1678 : IVec S16 32) : Prop :=
  (∀ a x, ((![v1678, v1661] : Fin 2 → IVec S16 32) a x).toNat < S224x129.size a)
theorem k0_idx74_inb : ∀ (v1661 : IVec S16 32) (v1678 : IVec S16 32) (k0_hw74 : k0_chk74 v1661 v1678), ∀ a x, ((![v1678, v1661] : Fin 2 → IVec S16 32) a x).toNat < S224x129.size a := fun v1661 v1678 k0_hw74 => k0_hw74
def k0_off76 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk75 (v1661 : IVec S16 32) (v1683 : IVec S16 32) : Prop :=
  (∀ a x, ((![v1683, v1661] : Fin 2 → IVec S16 32) a x).toNat < S224x129.size a)
theorem k0_idx75_inb : ∀ (v1661 : IVec S16 32) (v1683 : IVec S16 32) (k0_hw75 : k0_chk75 v1661 v1683), ∀ a x, ((![v1683, v1661] : Fin 2 → IVec S16 32) a x).toNat < S224x129.size a := fun v1661 v1683 k0_hw75 => k0_hw75
def k0_off77 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk76 (v1661 : IVec S16 32) (v1688 : IVec S16 32) : Prop :=
  (∀ a x, ((![v1688, v1661] : Fin 2 → IVec S16 32) a x).toNat < S224x129.size a)
theorem k0_idx76_inb : ∀ (v1661 : IVec S16 32) (v1688 : IVec S16 32) (k0_hw76 : k0_chk76 v1661 v1688), ∀ a x, ((![v1688, v1661] : Fin 2 → IVec S16 32) a x).toNat < S224x129.size a := fun v1661 v1688 k0_hw76 => k0_hw76
def k0_off78 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk77 (v1661 : IVec S16 32) (v1693 : IVec S16 32) : Prop :=
  (∀ a x, ((![v1693, v1661] : Fin 2 → IVec S16 32) a x).toNat < S224x129.size a)
theorem k0_idx77_inb : ∀ (v1661 : IVec S16 32) (v1693 : IVec S16 32) (k0_hw77 : k0_chk77 v1661 v1693), ∀ a x, ((![v1693, v1661] : Fin 2 → IVec S16 32) a x).toNat < S224x129.size a := fun v1661 v1693 k0_hw77 => k0_hw77
def k0_off79 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk78 (v1661 : IVec S16 32) (v1698 : IVec S16 32) : Prop :=
  (∀ a x, ((![v1698, v1661] : Fin 2 → IVec S16 32) a x).toNat < S224x129.size a)
theorem k0_idx78_inb : ∀ (v1661 : IVec S16 32) (v1698 : IVec S16 32) (k0_hw78 : k0_chk78 v1661 v1698), ∀ a x, ((![v1698, v1661] : Fin 2 → IVec S16 32) a x).toNat < S224x129.size a := fun v1661 v1698 k0_hw78 => k0_hw78
def k0_off80 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk79 (v1661 : IVec S16 32) (v1703 : IVec S16 32) : Prop :=
  (∀ a x, ((![v1703, v1661] : Fin 2 → IVec S16 32) a x).toNat < S224x129.size a)
theorem k0_idx79_inb : ∀ (v1661 : IVec S16 32) (v1703 : IVec S16 32) (k0_hw79 : k0_chk79 v1661 v1703), ∀ a x, ((![v1703, v1661] : Fin 2 → IVec S16 32) a x).toNat < S224x129.size a := fun v1661 v1703 k0_hw79 => k0_hw79
def k0_off81 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk80 (v1661 : IVec S16 32) (v1708 : IVec S16 32) : Prop :=
  (∀ a x, ((![v1708, v1661] : Fin 2 → IVec S16 32) a x).toNat < S224x129.size a)
theorem k0_idx80_inb : ∀ (v1661 : IVec S16 32) (v1708 : IVec S16 32) (k0_hw80 : k0_chk80 v1661 v1708), ∀ a x, ((![v1708, v1661] : Fin 2 → IVec S16 32) a x).toNat < S224x129.size a := fun v1661 v1708 k0_hw80 => k0_hw80
def k0_off82 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk81 (v1661 : IVec S16 32) (v1713 : IVec S16 32) : Prop :=
  (∀ a x, ((![v1713, v1661] : Fin 2 → IVec S16 32) a x).toNat < S224x129.size a)
theorem k0_idx81_inb : ∀ (v1661 : IVec S16 32) (v1713 : IVec S16 32) (k0_hw81 : k0_chk81 v1661 v1713), ∀ a x, ((![v1713, v1661] : Fin 2 → IVec S16 32) a x).toNat < S224x129.size a := fun v1661 v1713 k0_hw81 => k0_hw81
def k0_off83 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk82 (v1661 : IVec S16 32) (v1718 : IVec S16 32) : Prop :=
  (∀ a x, ((![v1718, v1661] : Fin 2 → IVec S16 32) a x).toNat < S224x129.size a)
theorem k0_idx82_inb : ∀ (v1661 : IVec S16 32) (v1718 : IVec S16 32) (k0_hw82 : k0_chk82 v1661 v1718), ∀ a x, ((![v1718, v1661] : Fin 2 → IVec S16 32) a x).toNat < S224x129.size a := fun v1661 v1718 k0_hw82 => k0_hw82
def k0_off84 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk83 (v1661 : IVec S16 32) (v1723 : IVec S16 32) : Prop :=
  (∀ a x, ((![v1723, v1661] : Fin 2 → IVec S16 32) a x).toNat < S224x129.size a)
theorem k0_idx83_inb : ∀ (v1661 : IVec S16 32) (v1723 : IVec S16 32) (k0_hw83 : k0_chk83 v1661 v1723), ∀ a x, ((![v1723, v1661] : Fin 2 → IVec S16 32) a x).toNat < S224x129.size a := fun v1661 v1723 k0_hw83 => k0_hw83
def k0_off85 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk84 (v1661 : IVec S16 32) (v1728 : IVec S16 32) : Prop :=
  (∀ a x, ((![v1728, v1661] : Fin 2 → IVec S16 32) a x).toNat < S224x129.size a)
theorem k0_idx84_inb : ∀ (v1661 : IVec S16 32) (v1728 : IVec S16 32) (k0_hw84 : k0_chk84 v1661 v1728), ∀ a x, ((![v1728, v1661] : Fin 2 → IVec S16 32) a x).toNat < S224x129.size a := fun v1661 v1728 k0_hw84 => k0_hw84
def k0_off86 (k0_t6 : Fin k0_t6_loop.trips) : Fin 2 → Nat :=
  let c0_i32_1155 : BitVec 32 := 0#32
  let c0_i32_320 : BitVec 32 := 0#32
  let c1_i32_322 : BitVec 32 := 1#32
  let arg12 : BitVec 32 := Scf.iv c0_i32_320 c1_i32_322 k0_t6
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t7_loop : Scf.Loop 32 :=
  let c0_i32_375 : BitVec 32 := 0#32
  let c32_i32_376 : BitVec 32 := 32#32
  let v542 : BitVec 32 := Scalar.addi c0_i32_375 c32_i32_376
  let c1_i32_377 : BitVec 32 := 1#32
  ⟨c0_i32_375, v542, c1_i32_377⟩

def k0_chk85 (v1661 : IVec S16 32) (v1663 : IVec S16 32) : Prop :=
  (∀ a x, ((![v1663, v1661] : Fin 2 → IVec S16 32) a x).toNat < S224x129.size a)
theorem k0_idx85_inb : ∀ (v1661 : IVec S16 32) (v1663 : IVec S16 32) (k0_hw85 : k0_chk85 v1661 v1663), ∀ a x, ((![v1663, v1661] : Fin 2 → IVec S16 32) a x).toNat < S224x129.size a := fun v1661 v1663 k0_hw85 => k0_hw85
def k0_off87 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk86 (v1661 : IVec S16 32) (v1668 : IVec S16 32) : Prop :=
  (∀ a x, ((![v1668, v1661] : Fin 2 → IVec S16 32) a x).toNat < S224x129.size a)
theorem k0_idx86_inb : ∀ (v1661 : IVec S16 32) (v1668 : IVec S16 32) (k0_hw86 : k0_chk86 v1661 v1668), ∀ a x, ((![v1668, v1661] : Fin 2 → IVec S16 32) a x).toNat < S224x129.size a := fun v1661 v1668 k0_hw86 => k0_hw86
def k0_off88 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk87 (v1661 : IVec S16 32) (v1673 : IVec S16 32) : Prop :=
  (∀ a x, ((![v1673, v1661] : Fin 2 → IVec S16 32) a x).toNat < S224x129.size a)
theorem k0_idx87_inb : ∀ (v1661 : IVec S16 32) (v1673 : IVec S16 32) (k0_hw87 : k0_chk87 v1661 v1673), ∀ a x, ((![v1673, v1661] : Fin 2 → IVec S16 32) a x).toNat < S224x129.size a := fun v1661 v1673 k0_hw87 => k0_hw87
def k0_off89 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk88 (v1661 : IVec S16 32) (v1678 : IVec S16 32) : Prop :=
  (∀ a x, ((![v1678, v1661] : Fin 2 → IVec S16 32) a x).toNat < S224x129.size a)
theorem k0_idx88_inb : ∀ (v1661 : IVec S16 32) (v1678 : IVec S16 32) (k0_hw88 : k0_chk88 v1661 v1678), ∀ a x, ((![v1678, v1661] : Fin 2 → IVec S16 32) a x).toNat < S224x129.size a := fun v1661 v1678 k0_hw88 => k0_hw88
def k0_off90 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk89 (v1661 : IVec S16 32) (v1683 : IVec S16 32) : Prop :=
  (∀ a x, ((![v1683, v1661] : Fin 2 → IVec S16 32) a x).toNat < S224x129.size a)
theorem k0_idx89_inb : ∀ (v1661 : IVec S16 32) (v1683 : IVec S16 32) (k0_hw89 : k0_chk89 v1661 v1683), ∀ a x, ((![v1683, v1661] : Fin 2 → IVec S16 32) a x).toNat < S224x129.size a := fun v1661 v1683 k0_hw89 => k0_hw89
def k0_off91 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk90 (v1661 : IVec S16 32) (v1688 : IVec S16 32) : Prop :=
  (∀ a x, ((![v1688, v1661] : Fin 2 → IVec S16 32) a x).toNat < S224x129.size a)
theorem k0_idx90_inb : ∀ (v1661 : IVec S16 32) (v1688 : IVec S16 32) (k0_hw90 : k0_chk90 v1661 v1688), ∀ a x, ((![v1688, v1661] : Fin 2 → IVec S16 32) a x).toNat < S224x129.size a := fun v1661 v1688 k0_hw90 => k0_hw90
def k0_off92 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk91 (v1661 : IVec S16 32) (v1693 : IVec S16 32) : Prop :=
  (∀ a x, ((![v1693, v1661] : Fin 2 → IVec S16 32) a x).toNat < S224x129.size a)
theorem k0_idx91_inb : ∀ (v1661 : IVec S16 32) (v1693 : IVec S16 32) (k0_hw91 : k0_chk91 v1661 v1693), ∀ a x, ((![v1693, v1661] : Fin 2 → IVec S16 32) a x).toNat < S224x129.size a := fun v1661 v1693 k0_hw91 => k0_hw91
def k0_off93 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk92 (v1661 : IVec S16 32) (v1698 : IVec S16 32) : Prop :=
  (∀ a x, ((![v1698, v1661] : Fin 2 → IVec S16 32) a x).toNat < S224x129.size a)
theorem k0_idx92_inb : ∀ (v1661 : IVec S16 32) (v1698 : IVec S16 32) (k0_hw92 : k0_chk92 v1661 v1698), ∀ a x, ((![v1698, v1661] : Fin 2 → IVec S16 32) a x).toNat < S224x129.size a := fun v1661 v1698 k0_hw92 => k0_hw92
def k0_off94 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk93 (v1661 : IVec S16 32) (v1703 : IVec S16 32) : Prop :=
  (∀ a x, ((![v1703, v1661] : Fin 2 → IVec S16 32) a x).toNat < S224x129.size a)
theorem k0_idx93_inb : ∀ (v1661 : IVec S16 32) (v1703 : IVec S16 32) (k0_hw93 : k0_chk93 v1661 v1703), ∀ a x, ((![v1703, v1661] : Fin 2 → IVec S16 32) a x).toNat < S224x129.size a := fun v1661 v1703 k0_hw93 => k0_hw93
def k0_off95 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk94 (v1661 : IVec S16 32) (v1708 : IVec S16 32) : Prop :=
  (∀ a x, ((![v1708, v1661] : Fin 2 → IVec S16 32) a x).toNat < S224x129.size a)
theorem k0_idx94_inb : ∀ (v1661 : IVec S16 32) (v1708 : IVec S16 32) (k0_hw94 : k0_chk94 v1661 v1708), ∀ a x, ((![v1708, v1661] : Fin 2 → IVec S16 32) a x).toNat < S224x129.size a := fun v1661 v1708 k0_hw94 => k0_hw94
def k0_off96 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk95 (v1661 : IVec S16 32) (v1713 : IVec S16 32) : Prop :=
  (∀ a x, ((![v1713, v1661] : Fin 2 → IVec S16 32) a x).toNat < S224x129.size a)
theorem k0_idx95_inb : ∀ (v1661 : IVec S16 32) (v1713 : IVec S16 32) (k0_hw95 : k0_chk95 v1661 v1713), ∀ a x, ((![v1713, v1661] : Fin 2 → IVec S16 32) a x).toNat < S224x129.size a := fun v1661 v1713 k0_hw95 => k0_hw95
def k0_off97 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk96 (v1661 : IVec S16 32) (v1718 : IVec S16 32) : Prop :=
  (∀ a x, ((![v1718, v1661] : Fin 2 → IVec S16 32) a x).toNat < S224x129.size a)
theorem k0_idx96_inb : ∀ (v1661 : IVec S16 32) (v1718 : IVec S16 32) (k0_hw96 : k0_chk96 v1661 v1718), ∀ a x, ((![v1718, v1661] : Fin 2 → IVec S16 32) a x).toNat < S224x129.size a := fun v1661 v1718 k0_hw96 => k0_hw96
def k0_off98 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk97 (v1661 : IVec S16 32) (v1723 : IVec S16 32) : Prop :=
  (∀ a x, ((![v1723, v1661] : Fin 2 → IVec S16 32) a x).toNat < S224x129.size a)
theorem k0_idx97_inb : ∀ (v1661 : IVec S16 32) (v1723 : IVec S16 32) (k0_hw97 : k0_chk97 v1661 v1723), ∀ a x, ((![v1723, v1661] : Fin 2 → IVec S16 32) a x).toNat < S224x129.size a := fun v1661 v1723 k0_hw97 => k0_hw97
def k0_off99 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk98 (v1661 : IVec S16 32) (v1728 : IVec S16 32) : Prop :=
  (∀ a x, ((![v1728, v1661] : Fin 2 → IVec S16 32) a x).toNat < S224x129.size a)
theorem k0_idx98_inb : ∀ (v1661 : IVec S16 32) (v1728 : IVec S16 32) (k0_hw98 : k0_chk98 v1661 v1728), ∀ a x, ((![v1728, v1661] : Fin 2 → IVec S16 32) a x).toNat < S224x129.size a := fun v1661 v1728 k0_hw98 => k0_hw98
def k0_off100 (k0_t7 : Fin k0_t7_loop.trips) : Fin 2 → Nat :=
  let c0_i32_1155 : BitVec 32 := 0#32
  let c0_i32_375 : BitVec 32 := 0#32
  let c1_i32_377 : BitVec 32 := 1#32
  let arg12 : BitVec 32 := Scf.iv c0_i32_375 c1_i32_377 k0_t7
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t8_loop : Scf.Loop 32 :=
  let c0_i32_430 : BitVec 32 := 0#32
  let c32_i32_431 : BitVec 32 := 32#32
  let v620 : BitVec 32 := Scalar.addi c0_i32_430 c32_i32_431
  let c1_i32_432 : BitVec 32 := 1#32
  ⟨c0_i32_430, v620, c1_i32_432⟩

def k0_chk99 (v1661 : IVec S16 32) (v1663 : IVec S16 32) : Prop :=
  (∀ a x, ((![v1663, v1661] : Fin 2 → IVec S16 32) a x).toNat < S224x129.size a)
theorem k0_idx99_inb : ∀ (v1661 : IVec S16 32) (v1663 : IVec S16 32) (k0_hw99 : k0_chk99 v1661 v1663), ∀ a x, ((![v1663, v1661] : Fin 2 → IVec S16 32) a x).toNat < S224x129.size a := fun v1661 v1663 k0_hw99 => k0_hw99
def k0_off101 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk100 (v1661 : IVec S16 32) (v1668 : IVec S16 32) : Prop :=
  (∀ a x, ((![v1668, v1661] : Fin 2 → IVec S16 32) a x).toNat < S224x129.size a)
theorem k0_idx100_inb : ∀ (v1661 : IVec S16 32) (v1668 : IVec S16 32) (k0_hw100 : k0_chk100 v1661 v1668), ∀ a x, ((![v1668, v1661] : Fin 2 → IVec S16 32) a x).toNat < S224x129.size a := fun v1661 v1668 k0_hw100 => k0_hw100
def k0_off102 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk101 (v1661 : IVec S16 32) (v1673 : IVec S16 32) : Prop :=
  (∀ a x, ((![v1673, v1661] : Fin 2 → IVec S16 32) a x).toNat < S224x129.size a)
theorem k0_idx101_inb : ∀ (v1661 : IVec S16 32) (v1673 : IVec S16 32) (k0_hw101 : k0_chk101 v1661 v1673), ∀ a x, ((![v1673, v1661] : Fin 2 → IVec S16 32) a x).toNat < S224x129.size a := fun v1661 v1673 k0_hw101 => k0_hw101
def k0_off103 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk102 (v1661 : IVec S16 32) (v1678 : IVec S16 32) : Prop :=
  (∀ a x, ((![v1678, v1661] : Fin 2 → IVec S16 32) a x).toNat < S224x129.size a)
theorem k0_idx102_inb : ∀ (v1661 : IVec S16 32) (v1678 : IVec S16 32) (k0_hw102 : k0_chk102 v1661 v1678), ∀ a x, ((![v1678, v1661] : Fin 2 → IVec S16 32) a x).toNat < S224x129.size a := fun v1661 v1678 k0_hw102 => k0_hw102
def k0_off104 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk103 (v1661 : IVec S16 32) (v1683 : IVec S16 32) : Prop :=
  (∀ a x, ((![v1683, v1661] : Fin 2 → IVec S16 32) a x).toNat < S224x129.size a)
theorem k0_idx103_inb : ∀ (v1661 : IVec S16 32) (v1683 : IVec S16 32) (k0_hw103 : k0_chk103 v1661 v1683), ∀ a x, ((![v1683, v1661] : Fin 2 → IVec S16 32) a x).toNat < S224x129.size a := fun v1661 v1683 k0_hw103 => k0_hw103
def k0_off105 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk104 (v1661 : IVec S16 32) (v1688 : IVec S16 32) : Prop :=
  (∀ a x, ((![v1688, v1661] : Fin 2 → IVec S16 32) a x).toNat < S224x129.size a)
theorem k0_idx104_inb : ∀ (v1661 : IVec S16 32) (v1688 : IVec S16 32) (k0_hw104 : k0_chk104 v1661 v1688), ∀ a x, ((![v1688, v1661] : Fin 2 → IVec S16 32) a x).toNat < S224x129.size a := fun v1661 v1688 k0_hw104 => k0_hw104
def k0_off106 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk105 (v1661 : IVec S16 32) (v1693 : IVec S16 32) : Prop :=
  (∀ a x, ((![v1693, v1661] : Fin 2 → IVec S16 32) a x).toNat < S224x129.size a)
theorem k0_idx105_inb : ∀ (v1661 : IVec S16 32) (v1693 : IVec S16 32) (k0_hw105 : k0_chk105 v1661 v1693), ∀ a x, ((![v1693, v1661] : Fin 2 → IVec S16 32) a x).toNat < S224x129.size a := fun v1661 v1693 k0_hw105 => k0_hw105
def k0_off107 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk106 (v1661 : IVec S16 32) (v1698 : IVec S16 32) : Prop :=
  (∀ a x, ((![v1698, v1661] : Fin 2 → IVec S16 32) a x).toNat < S224x129.size a)
theorem k0_idx106_inb : ∀ (v1661 : IVec S16 32) (v1698 : IVec S16 32) (k0_hw106 : k0_chk106 v1661 v1698), ∀ a x, ((![v1698, v1661] : Fin 2 → IVec S16 32) a x).toNat < S224x129.size a := fun v1661 v1698 k0_hw106 => k0_hw106
def k0_off108 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk107 (v1661 : IVec S16 32) (v1703 : IVec S16 32) : Prop :=
  (∀ a x, ((![v1703, v1661] : Fin 2 → IVec S16 32) a x).toNat < S224x129.size a)
theorem k0_idx107_inb : ∀ (v1661 : IVec S16 32) (v1703 : IVec S16 32) (k0_hw107 : k0_chk107 v1661 v1703), ∀ a x, ((![v1703, v1661] : Fin 2 → IVec S16 32) a x).toNat < S224x129.size a := fun v1661 v1703 k0_hw107 => k0_hw107
def k0_off109 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk108 (v1661 : IVec S16 32) (v1708 : IVec S16 32) : Prop :=
  (∀ a x, ((![v1708, v1661] : Fin 2 → IVec S16 32) a x).toNat < S224x129.size a)
theorem k0_idx108_inb : ∀ (v1661 : IVec S16 32) (v1708 : IVec S16 32) (k0_hw108 : k0_chk108 v1661 v1708), ∀ a x, ((![v1708, v1661] : Fin 2 → IVec S16 32) a x).toNat < S224x129.size a := fun v1661 v1708 k0_hw108 => k0_hw108
def k0_off110 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk109 (v1661 : IVec S16 32) (v1713 : IVec S16 32) : Prop :=
  (∀ a x, ((![v1713, v1661] : Fin 2 → IVec S16 32) a x).toNat < S224x129.size a)
theorem k0_idx109_inb : ∀ (v1661 : IVec S16 32) (v1713 : IVec S16 32) (k0_hw109 : k0_chk109 v1661 v1713), ∀ a x, ((![v1713, v1661] : Fin 2 → IVec S16 32) a x).toNat < S224x129.size a := fun v1661 v1713 k0_hw109 => k0_hw109
def k0_off111 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk110 (v1661 : IVec S16 32) (v1718 : IVec S16 32) : Prop :=
  (∀ a x, ((![v1718, v1661] : Fin 2 → IVec S16 32) a x).toNat < S224x129.size a)
theorem k0_idx110_inb : ∀ (v1661 : IVec S16 32) (v1718 : IVec S16 32) (k0_hw110 : k0_chk110 v1661 v1718), ∀ a x, ((![v1718, v1661] : Fin 2 → IVec S16 32) a x).toNat < S224x129.size a := fun v1661 v1718 k0_hw110 => k0_hw110
def k0_off112 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk111 (v1661 : IVec S16 32) (v1723 : IVec S16 32) : Prop :=
  (∀ a x, ((![v1723, v1661] : Fin 2 → IVec S16 32) a x).toNat < S224x129.size a)
theorem k0_idx111_inb : ∀ (v1661 : IVec S16 32) (v1723 : IVec S16 32) (k0_hw111 : k0_chk111 v1661 v1723), ∀ a x, ((![v1723, v1661] : Fin 2 → IVec S16 32) a x).toNat < S224x129.size a := fun v1661 v1723 k0_hw111 => k0_hw111
def k0_off113 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk112 (v1661 : IVec S16 32) (v1728 : IVec S16 32) : Prop :=
  (∀ a x, ((![v1728, v1661] : Fin 2 → IVec S16 32) a x).toNat < S224x129.size a)
theorem k0_idx112_inb : ∀ (v1661 : IVec S16 32) (v1728 : IVec S16 32) (k0_hw112 : k0_chk112 v1661 v1728), ∀ a x, ((![v1728, v1661] : Fin 2 → IVec S16 32) a x).toNat < S224x129.size a := fun v1661 v1728 k0_hw112 => k0_hw112
def k0_off114 (k0_t8 : Fin k0_t8_loop.trips) : Fin 2 → Nat :=
  let c0_i32_1155 : BitVec 32 := 0#32
  let c0_i32_430 : BitVec 32 := 0#32
  let c1_i32_432 : BitVec 32 := 1#32
  let arg12 : BitVec 32 := Scf.iv c0_i32_430 c1_i32_432 k0_t8
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t9_loop : Scf.Loop 32 :=
  let c0_i32_485 : BitVec 32 := 0#32
  let c32_i32_486 : BitVec 32 := 32#32
  let v698 : BitVec 32 := Scalar.addi c0_i32_485 c32_i32_486
  let c1_i32_487 : BitVec 32 := 1#32
  ⟨c0_i32_485, v698, c1_i32_487⟩

def k0_chk113 (v1661 : IVec S16 32) (v1663 : IVec S16 32) : Prop :=
  (∀ a x, ((![v1663, v1661] : Fin 2 → IVec S16 32) a x).toNat < S224x129.size a)
theorem k0_idx113_inb : ∀ (v1661 : IVec S16 32) (v1663 : IVec S16 32) (k0_hw113 : k0_chk113 v1661 v1663), ∀ a x, ((![v1663, v1661] : Fin 2 → IVec S16 32) a x).toNat < S224x129.size a := fun v1661 v1663 k0_hw113 => k0_hw113
def k0_off115 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk114 (v1661 : IVec S16 32) (v1668 : IVec S16 32) : Prop :=
  (∀ a x, ((![v1668, v1661] : Fin 2 → IVec S16 32) a x).toNat < S224x129.size a)
theorem k0_idx114_inb : ∀ (v1661 : IVec S16 32) (v1668 : IVec S16 32) (k0_hw114 : k0_chk114 v1661 v1668), ∀ a x, ((![v1668, v1661] : Fin 2 → IVec S16 32) a x).toNat < S224x129.size a := fun v1661 v1668 k0_hw114 => k0_hw114
def k0_off116 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk115 (v1661 : IVec S16 32) (v1673 : IVec S16 32) : Prop :=
  (∀ a x, ((![v1673, v1661] : Fin 2 → IVec S16 32) a x).toNat < S224x129.size a)
theorem k0_idx115_inb : ∀ (v1661 : IVec S16 32) (v1673 : IVec S16 32) (k0_hw115 : k0_chk115 v1661 v1673), ∀ a x, ((![v1673, v1661] : Fin 2 → IVec S16 32) a x).toNat < S224x129.size a := fun v1661 v1673 k0_hw115 => k0_hw115
def k0_off117 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk116 (v1661 : IVec S16 32) (v1678 : IVec S16 32) : Prop :=
  (∀ a x, ((![v1678, v1661] : Fin 2 → IVec S16 32) a x).toNat < S224x129.size a)
theorem k0_idx116_inb : ∀ (v1661 : IVec S16 32) (v1678 : IVec S16 32) (k0_hw116 : k0_chk116 v1661 v1678), ∀ a x, ((![v1678, v1661] : Fin 2 → IVec S16 32) a x).toNat < S224x129.size a := fun v1661 v1678 k0_hw116 => k0_hw116
def k0_off118 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk117 (v1661 : IVec S16 32) (v1683 : IVec S16 32) : Prop :=
  (∀ a x, ((![v1683, v1661] : Fin 2 → IVec S16 32) a x).toNat < S224x129.size a)
theorem k0_idx117_inb : ∀ (v1661 : IVec S16 32) (v1683 : IVec S16 32) (k0_hw117 : k0_chk117 v1661 v1683), ∀ a x, ((![v1683, v1661] : Fin 2 → IVec S16 32) a x).toNat < S224x129.size a := fun v1661 v1683 k0_hw117 => k0_hw117
def k0_off119 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk118 (v1661 : IVec S16 32) (v1688 : IVec S16 32) : Prop :=
  (∀ a x, ((![v1688, v1661] : Fin 2 → IVec S16 32) a x).toNat < S224x129.size a)
theorem k0_idx118_inb : ∀ (v1661 : IVec S16 32) (v1688 : IVec S16 32) (k0_hw118 : k0_chk118 v1661 v1688), ∀ a x, ((![v1688, v1661] : Fin 2 → IVec S16 32) a x).toNat < S224x129.size a := fun v1661 v1688 k0_hw118 => k0_hw118
def k0_off120 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk119 (v1661 : IVec S16 32) (v1693 : IVec S16 32) : Prop :=
  (∀ a x, ((![v1693, v1661] : Fin 2 → IVec S16 32) a x).toNat < S224x129.size a)
theorem k0_idx119_inb : ∀ (v1661 : IVec S16 32) (v1693 : IVec S16 32) (k0_hw119 : k0_chk119 v1661 v1693), ∀ a x, ((![v1693, v1661] : Fin 2 → IVec S16 32) a x).toNat < S224x129.size a := fun v1661 v1693 k0_hw119 => k0_hw119
def k0_off121 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk120 (v1661 : IVec S16 32) (v1698 : IVec S16 32) : Prop :=
  (∀ a x, ((![v1698, v1661] : Fin 2 → IVec S16 32) a x).toNat < S224x129.size a)
theorem k0_idx120_inb : ∀ (v1661 : IVec S16 32) (v1698 : IVec S16 32) (k0_hw120 : k0_chk120 v1661 v1698), ∀ a x, ((![v1698, v1661] : Fin 2 → IVec S16 32) a x).toNat < S224x129.size a := fun v1661 v1698 k0_hw120 => k0_hw120
def k0_off122 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk121 (v1661 : IVec S16 32) (v1703 : IVec S16 32) : Prop :=
  (∀ a x, ((![v1703, v1661] : Fin 2 → IVec S16 32) a x).toNat < S224x129.size a)
theorem k0_idx121_inb : ∀ (v1661 : IVec S16 32) (v1703 : IVec S16 32) (k0_hw121 : k0_chk121 v1661 v1703), ∀ a x, ((![v1703, v1661] : Fin 2 → IVec S16 32) a x).toNat < S224x129.size a := fun v1661 v1703 k0_hw121 => k0_hw121
def k0_off123 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk122 (v1661 : IVec S16 32) (v1708 : IVec S16 32) : Prop :=
  (∀ a x, ((![v1708, v1661] : Fin 2 → IVec S16 32) a x).toNat < S224x129.size a)
theorem k0_idx122_inb : ∀ (v1661 : IVec S16 32) (v1708 : IVec S16 32) (k0_hw122 : k0_chk122 v1661 v1708), ∀ a x, ((![v1708, v1661] : Fin 2 → IVec S16 32) a x).toNat < S224x129.size a := fun v1661 v1708 k0_hw122 => k0_hw122
def k0_off124 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk123 (v1661 : IVec S16 32) (v1713 : IVec S16 32) : Prop :=
  (∀ a x, ((![v1713, v1661] : Fin 2 → IVec S16 32) a x).toNat < S224x129.size a)
theorem k0_idx123_inb : ∀ (v1661 : IVec S16 32) (v1713 : IVec S16 32) (k0_hw123 : k0_chk123 v1661 v1713), ∀ a x, ((![v1713, v1661] : Fin 2 → IVec S16 32) a x).toNat < S224x129.size a := fun v1661 v1713 k0_hw123 => k0_hw123
def k0_off125 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk124 (v1661 : IVec S16 32) (v1718 : IVec S16 32) : Prop :=
  (∀ a x, ((![v1718, v1661] : Fin 2 → IVec S16 32) a x).toNat < S224x129.size a)
theorem k0_idx124_inb : ∀ (v1661 : IVec S16 32) (v1718 : IVec S16 32) (k0_hw124 : k0_chk124 v1661 v1718), ∀ a x, ((![v1718, v1661] : Fin 2 → IVec S16 32) a x).toNat < S224x129.size a := fun v1661 v1718 k0_hw124 => k0_hw124
def k0_off126 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk125 (v1661 : IVec S16 32) (v1723 : IVec S16 32) : Prop :=
  (∀ a x, ((![v1723, v1661] : Fin 2 → IVec S16 32) a x).toNat < S224x129.size a)
theorem k0_idx125_inb : ∀ (v1661 : IVec S16 32) (v1723 : IVec S16 32) (k0_hw125 : k0_chk125 v1661 v1723), ∀ a x, ((![v1723, v1661] : Fin 2 → IVec S16 32) a x).toNat < S224x129.size a := fun v1661 v1723 k0_hw125 => k0_hw125
def k0_off127 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk126 (v1661 : IVec S16 32) (v1728 : IVec S16 32) : Prop :=
  (∀ a x, ((![v1728, v1661] : Fin 2 → IVec S16 32) a x).toNat < S224x129.size a)
theorem k0_idx126_inb : ∀ (v1661 : IVec S16 32) (v1728 : IVec S16 32) (k0_hw126 : k0_chk126 v1661 v1728), ∀ a x, ((![v1728, v1661] : Fin 2 → IVec S16 32) a x).toNat < S224x129.size a := fun v1661 v1728 k0_hw126 => k0_hw126
def k0_off128 (k0_t9 : Fin k0_t9_loop.trips) : Fin 2 → Nat :=
  let c0_i32_1155 : BitVec 32 := 0#32
  let c0_i32_485 : BitVec 32 := 0#32
  let c1_i32_487 : BitVec 32 := 1#32
  let arg12 : BitVec 32 := Scf.iv c0_i32_485 c1_i32_487 k0_t9
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t10_loop : Scf.Loop 32 :=
  let c0_i32_540 : BitVec 32 := 0#32
  let c32_i32_541 : BitVec 32 := 32#32
  let v776 : BitVec 32 := Scalar.addi c0_i32_540 c32_i32_541
  let c1_i32_542 : BitVec 32 := 1#32
  ⟨c0_i32_540, v776, c1_i32_542⟩

def k0_chk127 (v1661 : IVec S16 32) (v1663 : IVec S16 32) : Prop :=
  (∀ a x, ((![v1663, v1661] : Fin 2 → IVec S16 32) a x).toNat < S224x129.size a)
theorem k0_idx127_inb : ∀ (v1661 : IVec S16 32) (v1663 : IVec S16 32) (k0_hw127 : k0_chk127 v1661 v1663), ∀ a x, ((![v1663, v1661] : Fin 2 → IVec S16 32) a x).toNat < S224x129.size a := fun v1661 v1663 k0_hw127 => k0_hw127
def k0_off129 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk128 (v1661 : IVec S16 32) (v1668 : IVec S16 32) : Prop :=
  (∀ a x, ((![v1668, v1661] : Fin 2 → IVec S16 32) a x).toNat < S224x129.size a)
theorem k0_idx128_inb : ∀ (v1661 : IVec S16 32) (v1668 : IVec S16 32) (k0_hw128 : k0_chk128 v1661 v1668), ∀ a x, ((![v1668, v1661] : Fin 2 → IVec S16 32) a x).toNat < S224x129.size a := fun v1661 v1668 k0_hw128 => k0_hw128
def k0_off130 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk129 (v1661 : IVec S16 32) (v1673 : IVec S16 32) : Prop :=
  (∀ a x, ((![v1673, v1661] : Fin 2 → IVec S16 32) a x).toNat < S224x129.size a)
theorem k0_idx129_inb : ∀ (v1661 : IVec S16 32) (v1673 : IVec S16 32) (k0_hw129 : k0_chk129 v1661 v1673), ∀ a x, ((![v1673, v1661] : Fin 2 → IVec S16 32) a x).toNat < S224x129.size a := fun v1661 v1673 k0_hw129 => k0_hw129
def k0_off131 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk130 (v1661 : IVec S16 32) (v1678 : IVec S16 32) : Prop :=
  (∀ a x, ((![v1678, v1661] : Fin 2 → IVec S16 32) a x).toNat < S224x129.size a)
theorem k0_idx130_inb : ∀ (v1661 : IVec S16 32) (v1678 : IVec S16 32) (k0_hw130 : k0_chk130 v1661 v1678), ∀ a x, ((![v1678, v1661] : Fin 2 → IVec S16 32) a x).toNat < S224x129.size a := fun v1661 v1678 k0_hw130 => k0_hw130
def k0_off132 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk131 (v1661 : IVec S16 32) (v1683 : IVec S16 32) : Prop :=
  (∀ a x, ((![v1683, v1661] : Fin 2 → IVec S16 32) a x).toNat < S224x129.size a)
theorem k0_idx131_inb : ∀ (v1661 : IVec S16 32) (v1683 : IVec S16 32) (k0_hw131 : k0_chk131 v1661 v1683), ∀ a x, ((![v1683, v1661] : Fin 2 → IVec S16 32) a x).toNat < S224x129.size a := fun v1661 v1683 k0_hw131 => k0_hw131
def k0_off133 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk132 (v1661 : IVec S16 32) (v1688 : IVec S16 32) : Prop :=
  (∀ a x, ((![v1688, v1661] : Fin 2 → IVec S16 32) a x).toNat < S224x129.size a)
theorem k0_idx132_inb : ∀ (v1661 : IVec S16 32) (v1688 : IVec S16 32) (k0_hw132 : k0_chk132 v1661 v1688), ∀ a x, ((![v1688, v1661] : Fin 2 → IVec S16 32) a x).toNat < S224x129.size a := fun v1661 v1688 k0_hw132 => k0_hw132
def k0_off134 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk133 (v1661 : IVec S16 32) (v1693 : IVec S16 32) : Prop :=
  (∀ a x, ((![v1693, v1661] : Fin 2 → IVec S16 32) a x).toNat < S224x129.size a)
theorem k0_idx133_inb : ∀ (v1661 : IVec S16 32) (v1693 : IVec S16 32) (k0_hw133 : k0_chk133 v1661 v1693), ∀ a x, ((![v1693, v1661] : Fin 2 → IVec S16 32) a x).toNat < S224x129.size a := fun v1661 v1693 k0_hw133 => k0_hw133
def k0_off135 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk134 (v1661 : IVec S16 32) (v1698 : IVec S16 32) : Prop :=
  (∀ a x, ((![v1698, v1661] : Fin 2 → IVec S16 32) a x).toNat < S224x129.size a)
theorem k0_idx134_inb : ∀ (v1661 : IVec S16 32) (v1698 : IVec S16 32) (k0_hw134 : k0_chk134 v1661 v1698), ∀ a x, ((![v1698, v1661] : Fin 2 → IVec S16 32) a x).toNat < S224x129.size a := fun v1661 v1698 k0_hw134 => k0_hw134
def k0_off136 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk135 (v1661 : IVec S16 32) (v1703 : IVec S16 32) : Prop :=
  (∀ a x, ((![v1703, v1661] : Fin 2 → IVec S16 32) a x).toNat < S224x129.size a)
theorem k0_idx135_inb : ∀ (v1661 : IVec S16 32) (v1703 : IVec S16 32) (k0_hw135 : k0_chk135 v1661 v1703), ∀ a x, ((![v1703, v1661] : Fin 2 → IVec S16 32) a x).toNat < S224x129.size a := fun v1661 v1703 k0_hw135 => k0_hw135
def k0_off137 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk136 (v1661 : IVec S16 32) (v1708 : IVec S16 32) : Prop :=
  (∀ a x, ((![v1708, v1661] : Fin 2 → IVec S16 32) a x).toNat < S224x129.size a)
theorem k0_idx136_inb : ∀ (v1661 : IVec S16 32) (v1708 : IVec S16 32) (k0_hw136 : k0_chk136 v1661 v1708), ∀ a x, ((![v1708, v1661] : Fin 2 → IVec S16 32) a x).toNat < S224x129.size a := fun v1661 v1708 k0_hw136 => k0_hw136
def k0_off138 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk137 (v1661 : IVec S16 32) (v1713 : IVec S16 32) : Prop :=
  (∀ a x, ((![v1713, v1661] : Fin 2 → IVec S16 32) a x).toNat < S224x129.size a)
theorem k0_idx137_inb : ∀ (v1661 : IVec S16 32) (v1713 : IVec S16 32) (k0_hw137 : k0_chk137 v1661 v1713), ∀ a x, ((![v1713, v1661] : Fin 2 → IVec S16 32) a x).toNat < S224x129.size a := fun v1661 v1713 k0_hw137 => k0_hw137
def k0_off139 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk138 (v1661 : IVec S16 32) (v1718 : IVec S16 32) : Prop :=
  (∀ a x, ((![v1718, v1661] : Fin 2 → IVec S16 32) a x).toNat < S224x129.size a)
theorem k0_idx138_inb : ∀ (v1661 : IVec S16 32) (v1718 : IVec S16 32) (k0_hw138 : k0_chk138 v1661 v1718), ∀ a x, ((![v1718, v1661] : Fin 2 → IVec S16 32) a x).toNat < S224x129.size a := fun v1661 v1718 k0_hw138 => k0_hw138
def k0_off140 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk139 (v1661 : IVec S16 32) (v1723 : IVec S16 32) : Prop :=
  (∀ a x, ((![v1723, v1661] : Fin 2 → IVec S16 32) a x).toNat < S224x129.size a)
theorem k0_idx139_inb : ∀ (v1661 : IVec S16 32) (v1723 : IVec S16 32) (k0_hw139 : k0_chk139 v1661 v1723), ∀ a x, ((![v1723, v1661] : Fin 2 → IVec S16 32) a x).toNat < S224x129.size a := fun v1661 v1723 k0_hw139 => k0_hw139
def k0_off141 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk140 (v1661 : IVec S16 32) (v1728 : IVec S16 32) : Prop :=
  (∀ a x, ((![v1728, v1661] : Fin 2 → IVec S16 32) a x).toNat < S224x129.size a)
theorem k0_idx140_inb : ∀ (v1661 : IVec S16 32) (v1728 : IVec S16 32) (k0_hw140 : k0_chk140 v1661 v1728), ∀ a x, ((![v1728, v1661] : Fin 2 → IVec S16 32) a x).toNat < S224x129.size a := fun v1661 v1728 k0_hw140 => k0_hw140
def k0_off142 (k0_t10 : Fin k0_t10_loop.trips) : Fin 2 → Nat :=
  let c0_i32_1155 : BitVec 32 := 0#32
  let c0_i32_540 : BitVec 32 := 0#32
  let c1_i32_542 : BitVec 32 := 1#32
  let arg12 : BitVec 32 := Scf.iv c0_i32_540 c1_i32_542 k0_t10
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t11_loop : Scf.Loop 32 :=
  let c0_i32_595 : BitVec 32 := 0#32
  let c32_i32_596 : BitVec 32 := 32#32
  let v854 : BitVec 32 := Scalar.addi c0_i32_595 c32_i32_596
  let c1_i32_597 : BitVec 32 := 1#32
  ⟨c0_i32_595, v854, c1_i32_597⟩

def k0_chk141 (v1661 : IVec S16 32) (v1663 : IVec S16 32) : Prop :=
  (∀ a x, ((![v1663, v1661] : Fin 2 → IVec S16 32) a x).toNat < S224x129.size a)
theorem k0_idx141_inb : ∀ (v1661 : IVec S16 32) (v1663 : IVec S16 32) (k0_hw141 : k0_chk141 v1661 v1663), ∀ a x, ((![v1663, v1661] : Fin 2 → IVec S16 32) a x).toNat < S224x129.size a := fun v1661 v1663 k0_hw141 => k0_hw141
def k0_off143 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk142 (v1661 : IVec S16 32) (v1668 : IVec S16 32) : Prop :=
  (∀ a x, ((![v1668, v1661] : Fin 2 → IVec S16 32) a x).toNat < S224x129.size a)
theorem k0_idx142_inb : ∀ (v1661 : IVec S16 32) (v1668 : IVec S16 32) (k0_hw142 : k0_chk142 v1661 v1668), ∀ a x, ((![v1668, v1661] : Fin 2 → IVec S16 32) a x).toNat < S224x129.size a := fun v1661 v1668 k0_hw142 => k0_hw142
def k0_off144 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk143 (v1661 : IVec S16 32) (v1673 : IVec S16 32) : Prop :=
  (∀ a x, ((![v1673, v1661] : Fin 2 → IVec S16 32) a x).toNat < S224x129.size a)
theorem k0_idx143_inb : ∀ (v1661 : IVec S16 32) (v1673 : IVec S16 32) (k0_hw143 : k0_chk143 v1661 v1673), ∀ a x, ((![v1673, v1661] : Fin 2 → IVec S16 32) a x).toNat < S224x129.size a := fun v1661 v1673 k0_hw143 => k0_hw143
def k0_off145 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk144 (v1661 : IVec S16 32) (v1678 : IVec S16 32) : Prop :=
  (∀ a x, ((![v1678, v1661] : Fin 2 → IVec S16 32) a x).toNat < S224x129.size a)
theorem k0_idx144_inb : ∀ (v1661 : IVec S16 32) (v1678 : IVec S16 32) (k0_hw144 : k0_chk144 v1661 v1678), ∀ a x, ((![v1678, v1661] : Fin 2 → IVec S16 32) a x).toNat < S224x129.size a := fun v1661 v1678 k0_hw144 => k0_hw144
def k0_off146 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk145 (v1661 : IVec S16 32) (v1683 : IVec S16 32) : Prop :=
  (∀ a x, ((![v1683, v1661] : Fin 2 → IVec S16 32) a x).toNat < S224x129.size a)
theorem k0_idx145_inb : ∀ (v1661 : IVec S16 32) (v1683 : IVec S16 32) (k0_hw145 : k0_chk145 v1661 v1683), ∀ a x, ((![v1683, v1661] : Fin 2 → IVec S16 32) a x).toNat < S224x129.size a := fun v1661 v1683 k0_hw145 => k0_hw145
def k0_off147 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk146 (v1661 : IVec S16 32) (v1688 : IVec S16 32) : Prop :=
  (∀ a x, ((![v1688, v1661] : Fin 2 → IVec S16 32) a x).toNat < S224x129.size a)
theorem k0_idx146_inb : ∀ (v1661 : IVec S16 32) (v1688 : IVec S16 32) (k0_hw146 : k0_chk146 v1661 v1688), ∀ a x, ((![v1688, v1661] : Fin 2 → IVec S16 32) a x).toNat < S224x129.size a := fun v1661 v1688 k0_hw146 => k0_hw146
def k0_off148 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk147 (v1661 : IVec S16 32) (v1693 : IVec S16 32) : Prop :=
  (∀ a x, ((![v1693, v1661] : Fin 2 → IVec S16 32) a x).toNat < S224x129.size a)
theorem k0_idx147_inb : ∀ (v1661 : IVec S16 32) (v1693 : IVec S16 32) (k0_hw147 : k0_chk147 v1661 v1693), ∀ a x, ((![v1693, v1661] : Fin 2 → IVec S16 32) a x).toNat < S224x129.size a := fun v1661 v1693 k0_hw147 => k0_hw147
def k0_off149 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk148 (v1661 : IVec S16 32) (v1698 : IVec S16 32) : Prop :=
  (∀ a x, ((![v1698, v1661] : Fin 2 → IVec S16 32) a x).toNat < S224x129.size a)
theorem k0_idx148_inb : ∀ (v1661 : IVec S16 32) (v1698 : IVec S16 32) (k0_hw148 : k0_chk148 v1661 v1698), ∀ a x, ((![v1698, v1661] : Fin 2 → IVec S16 32) a x).toNat < S224x129.size a := fun v1661 v1698 k0_hw148 => k0_hw148
def k0_off150 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk149 (v1661 : IVec S16 32) (v1703 : IVec S16 32) : Prop :=
  (∀ a x, ((![v1703, v1661] : Fin 2 → IVec S16 32) a x).toNat < S224x129.size a)
theorem k0_idx149_inb : ∀ (v1661 : IVec S16 32) (v1703 : IVec S16 32) (k0_hw149 : k0_chk149 v1661 v1703), ∀ a x, ((![v1703, v1661] : Fin 2 → IVec S16 32) a x).toNat < S224x129.size a := fun v1661 v1703 k0_hw149 => k0_hw149
def k0_off151 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk150 (v1661 : IVec S16 32) (v1708 : IVec S16 32) : Prop :=
  (∀ a x, ((![v1708, v1661] : Fin 2 → IVec S16 32) a x).toNat < S224x129.size a)
theorem k0_idx150_inb : ∀ (v1661 : IVec S16 32) (v1708 : IVec S16 32) (k0_hw150 : k0_chk150 v1661 v1708), ∀ a x, ((![v1708, v1661] : Fin 2 → IVec S16 32) a x).toNat < S224x129.size a := fun v1661 v1708 k0_hw150 => k0_hw150
def k0_off152 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk151 (v1661 : IVec S16 32) (v1713 : IVec S16 32) : Prop :=
  (∀ a x, ((![v1713, v1661] : Fin 2 → IVec S16 32) a x).toNat < S224x129.size a)
theorem k0_idx151_inb : ∀ (v1661 : IVec S16 32) (v1713 : IVec S16 32) (k0_hw151 : k0_chk151 v1661 v1713), ∀ a x, ((![v1713, v1661] : Fin 2 → IVec S16 32) a x).toNat < S224x129.size a := fun v1661 v1713 k0_hw151 => k0_hw151
def k0_off153 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk152 (v1661 : IVec S16 32) (v1718 : IVec S16 32) : Prop :=
  (∀ a x, ((![v1718, v1661] : Fin 2 → IVec S16 32) a x).toNat < S224x129.size a)
theorem k0_idx152_inb : ∀ (v1661 : IVec S16 32) (v1718 : IVec S16 32) (k0_hw152 : k0_chk152 v1661 v1718), ∀ a x, ((![v1718, v1661] : Fin 2 → IVec S16 32) a x).toNat < S224x129.size a := fun v1661 v1718 k0_hw152 => k0_hw152
def k0_off154 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk153 (v1661 : IVec S16 32) (v1723 : IVec S16 32) : Prop :=
  (∀ a x, ((![v1723, v1661] : Fin 2 → IVec S16 32) a x).toNat < S224x129.size a)
theorem k0_idx153_inb : ∀ (v1661 : IVec S16 32) (v1723 : IVec S16 32) (k0_hw153 : k0_chk153 v1661 v1723), ∀ a x, ((![v1723, v1661] : Fin 2 → IVec S16 32) a x).toNat < S224x129.size a := fun v1661 v1723 k0_hw153 => k0_hw153
def k0_off155 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk154 (v1661 : IVec S16 32) (v1728 : IVec S16 32) : Prop :=
  (∀ a x, ((![v1728, v1661] : Fin 2 → IVec S16 32) a x).toNat < S224x129.size a)
theorem k0_idx154_inb : ∀ (v1661 : IVec S16 32) (v1728 : IVec S16 32) (k0_hw154 : k0_chk154 v1661 v1728), ∀ a x, ((![v1728, v1661] : Fin 2 → IVec S16 32) a x).toNat < S224x129.size a := fun v1661 v1728 k0_hw154 => k0_hw154
def k0_off156 (k0_t11 : Fin k0_t11_loop.trips) : Fin 2 → Nat :=
  let c0_i32_1155 : BitVec 32 := 0#32
  let c0_i32_595 : BitVec 32 := 0#32
  let c1_i32_597 : BitVec 32 := 1#32
  let arg12 : BitVec 32 := Scf.iv c0_i32_595 c1_i32_597 k0_t11
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t12_loop : Scf.Loop 32 :=
  let c0_i32_650 : BitVec 32 := 0#32
  let c32_i32_651 : BitVec 32 := 32#32
  let v932 : BitVec 32 := Scalar.addi c0_i32_650 c32_i32_651
  let c1_i32_652 : BitVec 32 := 1#32
  ⟨c0_i32_650, v932, c1_i32_652⟩

def k0_chk155 (v1661 : IVec S16 32) (v1663 : IVec S16 32) : Prop :=
  (∀ a x, ((![v1663, v1661] : Fin 2 → IVec S16 32) a x).toNat < S224x129.size a)
theorem k0_idx155_inb : ∀ (v1661 : IVec S16 32) (v1663 : IVec S16 32) (k0_hw155 : k0_chk155 v1661 v1663), ∀ a x, ((![v1663, v1661] : Fin 2 → IVec S16 32) a x).toNat < S224x129.size a := fun v1661 v1663 k0_hw155 => k0_hw155
def k0_off157 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk156 (v1661 : IVec S16 32) (v1668 : IVec S16 32) : Prop :=
  (∀ a x, ((![v1668, v1661] : Fin 2 → IVec S16 32) a x).toNat < S224x129.size a)
theorem k0_idx156_inb : ∀ (v1661 : IVec S16 32) (v1668 : IVec S16 32) (k0_hw156 : k0_chk156 v1661 v1668), ∀ a x, ((![v1668, v1661] : Fin 2 → IVec S16 32) a x).toNat < S224x129.size a := fun v1661 v1668 k0_hw156 => k0_hw156
def k0_off158 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk157 (v1661 : IVec S16 32) (v1673 : IVec S16 32) : Prop :=
  (∀ a x, ((![v1673, v1661] : Fin 2 → IVec S16 32) a x).toNat < S224x129.size a)
theorem k0_idx157_inb : ∀ (v1661 : IVec S16 32) (v1673 : IVec S16 32) (k0_hw157 : k0_chk157 v1661 v1673), ∀ a x, ((![v1673, v1661] : Fin 2 → IVec S16 32) a x).toNat < S224x129.size a := fun v1661 v1673 k0_hw157 => k0_hw157
def k0_off159 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk158 (v1661 : IVec S16 32) (v1678 : IVec S16 32) : Prop :=
  (∀ a x, ((![v1678, v1661] : Fin 2 → IVec S16 32) a x).toNat < S224x129.size a)
theorem k0_idx158_inb : ∀ (v1661 : IVec S16 32) (v1678 : IVec S16 32) (k0_hw158 : k0_chk158 v1661 v1678), ∀ a x, ((![v1678, v1661] : Fin 2 → IVec S16 32) a x).toNat < S224x129.size a := fun v1661 v1678 k0_hw158 => k0_hw158
def k0_off160 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk159 (v1661 : IVec S16 32) (v1683 : IVec S16 32) : Prop :=
  (∀ a x, ((![v1683, v1661] : Fin 2 → IVec S16 32) a x).toNat < S224x129.size a)
theorem k0_idx159_inb : ∀ (v1661 : IVec S16 32) (v1683 : IVec S16 32) (k0_hw159 : k0_chk159 v1661 v1683), ∀ a x, ((![v1683, v1661] : Fin 2 → IVec S16 32) a x).toNat < S224x129.size a := fun v1661 v1683 k0_hw159 => k0_hw159
def k0_off161 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk160 (v1661 : IVec S16 32) (v1688 : IVec S16 32) : Prop :=
  (∀ a x, ((![v1688, v1661] : Fin 2 → IVec S16 32) a x).toNat < S224x129.size a)
theorem k0_idx160_inb : ∀ (v1661 : IVec S16 32) (v1688 : IVec S16 32) (k0_hw160 : k0_chk160 v1661 v1688), ∀ a x, ((![v1688, v1661] : Fin 2 → IVec S16 32) a x).toNat < S224x129.size a := fun v1661 v1688 k0_hw160 => k0_hw160
def k0_off162 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk161 (v1661 : IVec S16 32) (v1693 : IVec S16 32) : Prop :=
  (∀ a x, ((![v1693, v1661] : Fin 2 → IVec S16 32) a x).toNat < S224x129.size a)
theorem k0_idx161_inb : ∀ (v1661 : IVec S16 32) (v1693 : IVec S16 32) (k0_hw161 : k0_chk161 v1661 v1693), ∀ a x, ((![v1693, v1661] : Fin 2 → IVec S16 32) a x).toNat < S224x129.size a := fun v1661 v1693 k0_hw161 => k0_hw161
def k0_off163 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk162 (v1661 : IVec S16 32) (v1698 : IVec S16 32) : Prop :=
  (∀ a x, ((![v1698, v1661] : Fin 2 → IVec S16 32) a x).toNat < S224x129.size a)
theorem k0_idx162_inb : ∀ (v1661 : IVec S16 32) (v1698 : IVec S16 32) (k0_hw162 : k0_chk162 v1661 v1698), ∀ a x, ((![v1698, v1661] : Fin 2 → IVec S16 32) a x).toNat < S224x129.size a := fun v1661 v1698 k0_hw162 => k0_hw162
def k0_off164 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk163 (v1661 : IVec S16 32) (v1703 : IVec S16 32) : Prop :=
  (∀ a x, ((![v1703, v1661] : Fin 2 → IVec S16 32) a x).toNat < S224x129.size a)
theorem k0_idx163_inb : ∀ (v1661 : IVec S16 32) (v1703 : IVec S16 32) (k0_hw163 : k0_chk163 v1661 v1703), ∀ a x, ((![v1703, v1661] : Fin 2 → IVec S16 32) a x).toNat < S224x129.size a := fun v1661 v1703 k0_hw163 => k0_hw163
def k0_off165 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk164 (v1661 : IVec S16 32) (v1708 : IVec S16 32) : Prop :=
  (∀ a x, ((![v1708, v1661] : Fin 2 → IVec S16 32) a x).toNat < S224x129.size a)
theorem k0_idx164_inb : ∀ (v1661 : IVec S16 32) (v1708 : IVec S16 32) (k0_hw164 : k0_chk164 v1661 v1708), ∀ a x, ((![v1708, v1661] : Fin 2 → IVec S16 32) a x).toNat < S224x129.size a := fun v1661 v1708 k0_hw164 => k0_hw164
def k0_off166 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk165 (v1661 : IVec S16 32) (v1713 : IVec S16 32) : Prop :=
  (∀ a x, ((![v1713, v1661] : Fin 2 → IVec S16 32) a x).toNat < S224x129.size a)
theorem k0_idx165_inb : ∀ (v1661 : IVec S16 32) (v1713 : IVec S16 32) (k0_hw165 : k0_chk165 v1661 v1713), ∀ a x, ((![v1713, v1661] : Fin 2 → IVec S16 32) a x).toNat < S224x129.size a := fun v1661 v1713 k0_hw165 => k0_hw165
def k0_off167 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk166 (v1661 : IVec S16 32) (v1718 : IVec S16 32) : Prop :=
  (∀ a x, ((![v1718, v1661] : Fin 2 → IVec S16 32) a x).toNat < S224x129.size a)
theorem k0_idx166_inb : ∀ (v1661 : IVec S16 32) (v1718 : IVec S16 32) (k0_hw166 : k0_chk166 v1661 v1718), ∀ a x, ((![v1718, v1661] : Fin 2 → IVec S16 32) a x).toNat < S224x129.size a := fun v1661 v1718 k0_hw166 => k0_hw166
def k0_off168 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk167 (v1661 : IVec S16 32) (v1723 : IVec S16 32) : Prop :=
  (∀ a x, ((![v1723, v1661] : Fin 2 → IVec S16 32) a x).toNat < S224x129.size a)
theorem k0_idx167_inb : ∀ (v1661 : IVec S16 32) (v1723 : IVec S16 32) (k0_hw167 : k0_chk167 v1661 v1723), ∀ a x, ((![v1723, v1661] : Fin 2 → IVec S16 32) a x).toNat < S224x129.size a := fun v1661 v1723 k0_hw167 => k0_hw167
def k0_off169 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk168 (v1661 : IVec S16 32) (v1728 : IVec S16 32) : Prop :=
  (∀ a x, ((![v1728, v1661] : Fin 2 → IVec S16 32) a x).toNat < S224x129.size a)
theorem k0_idx168_inb : ∀ (v1661 : IVec S16 32) (v1728 : IVec S16 32) (k0_hw168 : k0_chk168 v1661 v1728), ∀ a x, ((![v1728, v1661] : Fin 2 → IVec S16 32) a x).toNat < S224x129.size a := fun v1661 v1728 k0_hw168 => k0_hw168
def k0_off170 (k0_t12 : Fin k0_t12_loop.trips) : Fin 2 → Nat :=
  let c0_i32_1155 : BitVec 32 := 0#32
  let c0_i32_650 : BitVec 32 := 0#32
  let c1_i32_652 : BitVec 32 := 1#32
  let arg12 : BitVec 32 := Scf.iv c0_i32_650 c1_i32_652 k0_t12
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t13_loop : Scf.Loop 32 :=
  let c0_i32_705 : BitVec 32 := 0#32
  let c32_i32_706 : BitVec 32 := 32#32
  let v1010 : BitVec 32 := Scalar.addi c0_i32_705 c32_i32_706
  let c1_i32_707 : BitVec 32 := 1#32
  ⟨c0_i32_705, v1010, c1_i32_707⟩

def k0_chk169 (v1661 : IVec S16 32) (v1663 : IVec S16 32) : Prop :=
  (∀ a x, ((![v1663, v1661] : Fin 2 → IVec S16 32) a x).toNat < S224x129.size a)
theorem k0_idx169_inb : ∀ (v1661 : IVec S16 32) (v1663 : IVec S16 32) (k0_hw169 : k0_chk169 v1661 v1663), ∀ a x, ((![v1663, v1661] : Fin 2 → IVec S16 32) a x).toNat < S224x129.size a := fun v1661 v1663 k0_hw169 => k0_hw169
def k0_off171 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk170 (v1661 : IVec S16 32) (v1668 : IVec S16 32) : Prop :=
  (∀ a x, ((![v1668, v1661] : Fin 2 → IVec S16 32) a x).toNat < S224x129.size a)
theorem k0_idx170_inb : ∀ (v1661 : IVec S16 32) (v1668 : IVec S16 32) (k0_hw170 : k0_chk170 v1661 v1668), ∀ a x, ((![v1668, v1661] : Fin 2 → IVec S16 32) a x).toNat < S224x129.size a := fun v1661 v1668 k0_hw170 => k0_hw170
def k0_off172 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk171 (v1661 : IVec S16 32) (v1673 : IVec S16 32) : Prop :=
  (∀ a x, ((![v1673, v1661] : Fin 2 → IVec S16 32) a x).toNat < S224x129.size a)
theorem k0_idx171_inb : ∀ (v1661 : IVec S16 32) (v1673 : IVec S16 32) (k0_hw171 : k0_chk171 v1661 v1673), ∀ a x, ((![v1673, v1661] : Fin 2 → IVec S16 32) a x).toNat < S224x129.size a := fun v1661 v1673 k0_hw171 => k0_hw171
def k0_off173 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk172 (v1661 : IVec S16 32) (v1678 : IVec S16 32) : Prop :=
  (∀ a x, ((![v1678, v1661] : Fin 2 → IVec S16 32) a x).toNat < S224x129.size a)
theorem k0_idx172_inb : ∀ (v1661 : IVec S16 32) (v1678 : IVec S16 32) (k0_hw172 : k0_chk172 v1661 v1678), ∀ a x, ((![v1678, v1661] : Fin 2 → IVec S16 32) a x).toNat < S224x129.size a := fun v1661 v1678 k0_hw172 => k0_hw172
def k0_off174 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk173 (v1661 : IVec S16 32) (v1683 : IVec S16 32) : Prop :=
  (∀ a x, ((![v1683, v1661] : Fin 2 → IVec S16 32) a x).toNat < S224x129.size a)
theorem k0_idx173_inb : ∀ (v1661 : IVec S16 32) (v1683 : IVec S16 32) (k0_hw173 : k0_chk173 v1661 v1683), ∀ a x, ((![v1683, v1661] : Fin 2 → IVec S16 32) a x).toNat < S224x129.size a := fun v1661 v1683 k0_hw173 => k0_hw173
def k0_off175 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk174 (v1661 : IVec S16 32) (v1688 : IVec S16 32) : Prop :=
  (∀ a x, ((![v1688, v1661] : Fin 2 → IVec S16 32) a x).toNat < S224x129.size a)
theorem k0_idx174_inb : ∀ (v1661 : IVec S16 32) (v1688 : IVec S16 32) (k0_hw174 : k0_chk174 v1661 v1688), ∀ a x, ((![v1688, v1661] : Fin 2 → IVec S16 32) a x).toNat < S224x129.size a := fun v1661 v1688 k0_hw174 => k0_hw174
def k0_off176 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk175 (v1661 : IVec S16 32) (v1693 : IVec S16 32) : Prop :=
  (∀ a x, ((![v1693, v1661] : Fin 2 → IVec S16 32) a x).toNat < S224x129.size a)
theorem k0_idx175_inb : ∀ (v1661 : IVec S16 32) (v1693 : IVec S16 32) (k0_hw175 : k0_chk175 v1661 v1693), ∀ a x, ((![v1693, v1661] : Fin 2 → IVec S16 32) a x).toNat < S224x129.size a := fun v1661 v1693 k0_hw175 => k0_hw175
def k0_off177 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk176 (v1661 : IVec S16 32) (v1698 : IVec S16 32) : Prop :=
  (∀ a x, ((![v1698, v1661] : Fin 2 → IVec S16 32) a x).toNat < S224x129.size a)
theorem k0_idx176_inb : ∀ (v1661 : IVec S16 32) (v1698 : IVec S16 32) (k0_hw176 : k0_chk176 v1661 v1698), ∀ a x, ((![v1698, v1661] : Fin 2 → IVec S16 32) a x).toNat < S224x129.size a := fun v1661 v1698 k0_hw176 => k0_hw176
def k0_off178 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk177 (v1661 : IVec S16 32) (v1703 : IVec S16 32) : Prop :=
  (∀ a x, ((![v1703, v1661] : Fin 2 → IVec S16 32) a x).toNat < S224x129.size a)
theorem k0_idx177_inb : ∀ (v1661 : IVec S16 32) (v1703 : IVec S16 32) (k0_hw177 : k0_chk177 v1661 v1703), ∀ a x, ((![v1703, v1661] : Fin 2 → IVec S16 32) a x).toNat < S224x129.size a := fun v1661 v1703 k0_hw177 => k0_hw177
def k0_off179 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk178 (v1661 : IVec S16 32) (v1708 : IVec S16 32) : Prop :=
  (∀ a x, ((![v1708, v1661] : Fin 2 → IVec S16 32) a x).toNat < S224x129.size a)
theorem k0_idx178_inb : ∀ (v1661 : IVec S16 32) (v1708 : IVec S16 32) (k0_hw178 : k0_chk178 v1661 v1708), ∀ a x, ((![v1708, v1661] : Fin 2 → IVec S16 32) a x).toNat < S224x129.size a := fun v1661 v1708 k0_hw178 => k0_hw178
def k0_off180 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk179 (v1661 : IVec S16 32) (v1713 : IVec S16 32) : Prop :=
  (∀ a x, ((![v1713, v1661] : Fin 2 → IVec S16 32) a x).toNat < S224x129.size a)
theorem k0_idx179_inb : ∀ (v1661 : IVec S16 32) (v1713 : IVec S16 32) (k0_hw179 : k0_chk179 v1661 v1713), ∀ a x, ((![v1713, v1661] : Fin 2 → IVec S16 32) a x).toNat < S224x129.size a := fun v1661 v1713 k0_hw179 => k0_hw179
def k0_off181 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk180 (v1661 : IVec S16 32) (v1718 : IVec S16 32) : Prop :=
  (∀ a x, ((![v1718, v1661] : Fin 2 → IVec S16 32) a x).toNat < S224x129.size a)
theorem k0_idx180_inb : ∀ (v1661 : IVec S16 32) (v1718 : IVec S16 32) (k0_hw180 : k0_chk180 v1661 v1718), ∀ a x, ((![v1718, v1661] : Fin 2 → IVec S16 32) a x).toNat < S224x129.size a := fun v1661 v1718 k0_hw180 => k0_hw180
def k0_off182 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk181 (v1661 : IVec S16 32) (v1723 : IVec S16 32) : Prop :=
  (∀ a x, ((![v1723, v1661] : Fin 2 → IVec S16 32) a x).toNat < S224x129.size a)
theorem k0_idx181_inb : ∀ (v1661 : IVec S16 32) (v1723 : IVec S16 32) (k0_hw181 : k0_chk181 v1661 v1723), ∀ a x, ((![v1723, v1661] : Fin 2 → IVec S16 32) a x).toNat < S224x129.size a := fun v1661 v1723 k0_hw181 => k0_hw181
def k0_off183 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk182 (v1661 : IVec S16 32) (v1728 : IVec S16 32) : Prop :=
  (∀ a x, ((![v1728, v1661] : Fin 2 → IVec S16 32) a x).toNat < S224x129.size a)
theorem k0_idx182_inb : ∀ (v1661 : IVec S16 32) (v1728 : IVec S16 32) (k0_hw182 : k0_chk182 v1661 v1728), ∀ a x, ((![v1728, v1661] : Fin 2 → IVec S16 32) a x).toNat < S224x129.size a := fun v1661 v1728 k0_hw182 => k0_hw182
def k0_off184 (k0_t13 : Fin k0_t13_loop.trips) : Fin 2 → Nat :=
  let c0_i32_1155 : BitVec 32 := 0#32
  let c0_i32_705 : BitVec 32 := 0#32
  let c1_i32_707 : BitVec 32 := 1#32
  let arg12 : BitVec 32 := Scf.iv c0_i32_705 c1_i32_707 k0_t13
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t14_loop : Scf.Loop 32 :=
  let c0_i32_760 : BitVec 32 := 0#32
  let c32_i32_761 : BitVec 32 := 32#32
  let v1088 : BitVec 32 := Scalar.addi c0_i32_760 c32_i32_761
  let c1_i32_762 : BitVec 32 := 1#32
  ⟨c0_i32_760, v1088, c1_i32_762⟩

def k0_chk183 (v1661 : IVec S16 32) (v1663 : IVec S16 32) : Prop :=
  (∀ a x, ((![v1663, v1661] : Fin 2 → IVec S16 32) a x).toNat < S224x129.size a)
theorem k0_idx183_inb : ∀ (v1661 : IVec S16 32) (v1663 : IVec S16 32) (k0_hw183 : k0_chk183 v1661 v1663), ∀ a x, ((![v1663, v1661] : Fin 2 → IVec S16 32) a x).toNat < S224x129.size a := fun v1661 v1663 k0_hw183 => k0_hw183
def k0_off185 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk184 (v1661 : IVec S16 32) (v1668 : IVec S16 32) : Prop :=
  (∀ a x, ((![v1668, v1661] : Fin 2 → IVec S16 32) a x).toNat < S224x129.size a)
theorem k0_idx184_inb : ∀ (v1661 : IVec S16 32) (v1668 : IVec S16 32) (k0_hw184 : k0_chk184 v1661 v1668), ∀ a x, ((![v1668, v1661] : Fin 2 → IVec S16 32) a x).toNat < S224x129.size a := fun v1661 v1668 k0_hw184 => k0_hw184
def k0_off186 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk185 (v1661 : IVec S16 32) (v1673 : IVec S16 32) : Prop :=
  (∀ a x, ((![v1673, v1661] : Fin 2 → IVec S16 32) a x).toNat < S224x129.size a)
theorem k0_idx185_inb : ∀ (v1661 : IVec S16 32) (v1673 : IVec S16 32) (k0_hw185 : k0_chk185 v1661 v1673), ∀ a x, ((![v1673, v1661] : Fin 2 → IVec S16 32) a x).toNat < S224x129.size a := fun v1661 v1673 k0_hw185 => k0_hw185
def k0_off187 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk186 (v1661 : IVec S16 32) (v1678 : IVec S16 32) : Prop :=
  (∀ a x, ((![v1678, v1661] : Fin 2 → IVec S16 32) a x).toNat < S224x129.size a)
theorem k0_idx186_inb : ∀ (v1661 : IVec S16 32) (v1678 : IVec S16 32) (k0_hw186 : k0_chk186 v1661 v1678), ∀ a x, ((![v1678, v1661] : Fin 2 → IVec S16 32) a x).toNat < S224x129.size a := fun v1661 v1678 k0_hw186 => k0_hw186
def k0_off188 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk187 (v1661 : IVec S16 32) (v1683 : IVec S16 32) : Prop :=
  (∀ a x, ((![v1683, v1661] : Fin 2 → IVec S16 32) a x).toNat < S224x129.size a)
theorem k0_idx187_inb : ∀ (v1661 : IVec S16 32) (v1683 : IVec S16 32) (k0_hw187 : k0_chk187 v1661 v1683), ∀ a x, ((![v1683, v1661] : Fin 2 → IVec S16 32) a x).toNat < S224x129.size a := fun v1661 v1683 k0_hw187 => k0_hw187
def k0_off189 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk188 (v1661 : IVec S16 32) (v1688 : IVec S16 32) : Prop :=
  (∀ a x, ((![v1688, v1661] : Fin 2 → IVec S16 32) a x).toNat < S224x129.size a)
theorem k0_idx188_inb : ∀ (v1661 : IVec S16 32) (v1688 : IVec S16 32) (k0_hw188 : k0_chk188 v1661 v1688), ∀ a x, ((![v1688, v1661] : Fin 2 → IVec S16 32) a x).toNat < S224x129.size a := fun v1661 v1688 k0_hw188 => k0_hw188
def k0_off190 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk189 (v1661 : IVec S16 32) (v1693 : IVec S16 32) : Prop :=
  (∀ a x, ((![v1693, v1661] : Fin 2 → IVec S16 32) a x).toNat < S224x129.size a)
theorem k0_idx189_inb : ∀ (v1661 : IVec S16 32) (v1693 : IVec S16 32) (k0_hw189 : k0_chk189 v1661 v1693), ∀ a x, ((![v1693, v1661] : Fin 2 → IVec S16 32) a x).toNat < S224x129.size a := fun v1661 v1693 k0_hw189 => k0_hw189
def k0_off191 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk190 (v1661 : IVec S16 32) (v1698 : IVec S16 32) : Prop :=
  (∀ a x, ((![v1698, v1661] : Fin 2 → IVec S16 32) a x).toNat < S224x129.size a)
theorem k0_idx190_inb : ∀ (v1661 : IVec S16 32) (v1698 : IVec S16 32) (k0_hw190 : k0_chk190 v1661 v1698), ∀ a x, ((![v1698, v1661] : Fin 2 → IVec S16 32) a x).toNat < S224x129.size a := fun v1661 v1698 k0_hw190 => k0_hw190
def k0_off192 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk191 (v1661 : IVec S16 32) (v1703 : IVec S16 32) : Prop :=
  (∀ a x, ((![v1703, v1661] : Fin 2 → IVec S16 32) a x).toNat < S224x129.size a)
theorem k0_idx191_inb : ∀ (v1661 : IVec S16 32) (v1703 : IVec S16 32) (k0_hw191 : k0_chk191 v1661 v1703), ∀ a x, ((![v1703, v1661] : Fin 2 → IVec S16 32) a x).toNat < S224x129.size a := fun v1661 v1703 k0_hw191 => k0_hw191
def k0_off193 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk192 (v1661 : IVec S16 32) (v1708 : IVec S16 32) : Prop :=
  (∀ a x, ((![v1708, v1661] : Fin 2 → IVec S16 32) a x).toNat < S224x129.size a)
theorem k0_idx192_inb : ∀ (v1661 : IVec S16 32) (v1708 : IVec S16 32) (k0_hw192 : k0_chk192 v1661 v1708), ∀ a x, ((![v1708, v1661] : Fin 2 → IVec S16 32) a x).toNat < S224x129.size a := fun v1661 v1708 k0_hw192 => k0_hw192
def k0_off194 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk193 (v1661 : IVec S16 32) (v1713 : IVec S16 32) : Prop :=
  (∀ a x, ((![v1713, v1661] : Fin 2 → IVec S16 32) a x).toNat < S224x129.size a)
theorem k0_idx193_inb : ∀ (v1661 : IVec S16 32) (v1713 : IVec S16 32) (k0_hw193 : k0_chk193 v1661 v1713), ∀ a x, ((![v1713, v1661] : Fin 2 → IVec S16 32) a x).toNat < S224x129.size a := fun v1661 v1713 k0_hw193 => k0_hw193
def k0_off195 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk194 (v1661 : IVec S16 32) (v1718 : IVec S16 32) : Prop :=
  (∀ a x, ((![v1718, v1661] : Fin 2 → IVec S16 32) a x).toNat < S224x129.size a)
theorem k0_idx194_inb : ∀ (v1661 : IVec S16 32) (v1718 : IVec S16 32) (k0_hw194 : k0_chk194 v1661 v1718), ∀ a x, ((![v1718, v1661] : Fin 2 → IVec S16 32) a x).toNat < S224x129.size a := fun v1661 v1718 k0_hw194 => k0_hw194
def k0_off196 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk195 (v1661 : IVec S16 32) (v1723 : IVec S16 32) : Prop :=
  (∀ a x, ((![v1723, v1661] : Fin 2 → IVec S16 32) a x).toNat < S224x129.size a)
theorem k0_idx195_inb : ∀ (v1661 : IVec S16 32) (v1723 : IVec S16 32) (k0_hw195 : k0_chk195 v1661 v1723), ∀ a x, ((![v1723, v1661] : Fin 2 → IVec S16 32) a x).toNat < S224x129.size a := fun v1661 v1723 k0_hw195 => k0_hw195
def k0_off197 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk196 (v1661 : IVec S16 32) (v1728 : IVec S16 32) : Prop :=
  (∀ a x, ((![v1728, v1661] : Fin 2 → IVec S16 32) a x).toNat < S224x129.size a)
theorem k0_idx196_inb : ∀ (v1661 : IVec S16 32) (v1728 : IVec S16 32) (k0_hw196 : k0_chk196 v1661 v1728), ∀ a x, ((![v1728, v1661] : Fin 2 → IVec S16 32) a x).toNat < S224x129.size a := fun v1661 v1728 k0_hw196 => k0_hw196
def k0_off198 (k0_t14 : Fin k0_t14_loop.trips) : Fin 2 → Nat :=
  let c0_i32_1155 : BitVec 32 := 0#32
  let c0_i32_760 : BitVec 32 := 0#32
  let c1_i32_762 : BitVec 32 := 1#32
  let arg12 : BitVec 32 := Scf.iv c0_i32_760 c1_i32_762 k0_t14
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t15_loop : Scf.Loop 32 :=
  let c0_i32_815 : BitVec 32 := 0#32
  let c32_i32_816 : BitVec 32 := 32#32
  let v1166 : BitVec 32 := Scalar.addi c0_i32_815 c32_i32_816
  let c1_i32_817 : BitVec 32 := 1#32
  ⟨c0_i32_815, v1166, c1_i32_817⟩

def k0_chk197 (v1661 : IVec S16 32) (v1663 : IVec S16 32) : Prop :=
  (∀ a x, ((![v1663, v1661] : Fin 2 → IVec S16 32) a x).toNat < S224x129.size a)
theorem k0_idx197_inb : ∀ (v1661 : IVec S16 32) (v1663 : IVec S16 32) (k0_hw197 : k0_chk197 v1661 v1663), ∀ a x, ((![v1663, v1661] : Fin 2 → IVec S16 32) a x).toNat < S224x129.size a := fun v1661 v1663 k0_hw197 => k0_hw197
def k0_off199 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk198 (v1661 : IVec S16 32) (v1668 : IVec S16 32) : Prop :=
  (∀ a x, ((![v1668, v1661] : Fin 2 → IVec S16 32) a x).toNat < S224x129.size a)
theorem k0_idx198_inb : ∀ (v1661 : IVec S16 32) (v1668 : IVec S16 32) (k0_hw198 : k0_chk198 v1661 v1668), ∀ a x, ((![v1668, v1661] : Fin 2 → IVec S16 32) a x).toNat < S224x129.size a := fun v1661 v1668 k0_hw198 => k0_hw198
def k0_off200 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk199 (v1661 : IVec S16 32) (v1673 : IVec S16 32) : Prop :=
  (∀ a x, ((![v1673, v1661] : Fin 2 → IVec S16 32) a x).toNat < S224x129.size a)
theorem k0_idx199_inb : ∀ (v1661 : IVec S16 32) (v1673 : IVec S16 32) (k0_hw199 : k0_chk199 v1661 v1673), ∀ a x, ((![v1673, v1661] : Fin 2 → IVec S16 32) a x).toNat < S224x129.size a := fun v1661 v1673 k0_hw199 => k0_hw199
def k0_off201 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk200 (v1661 : IVec S16 32) (v1678 : IVec S16 32) : Prop :=
  (∀ a x, ((![v1678, v1661] : Fin 2 → IVec S16 32) a x).toNat < S224x129.size a)
theorem k0_idx200_inb : ∀ (v1661 : IVec S16 32) (v1678 : IVec S16 32) (k0_hw200 : k0_chk200 v1661 v1678), ∀ a x, ((![v1678, v1661] : Fin 2 → IVec S16 32) a x).toNat < S224x129.size a := fun v1661 v1678 k0_hw200 => k0_hw200
def k0_off202 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk201 (v1661 : IVec S16 32) (v1683 : IVec S16 32) : Prop :=
  (∀ a x, ((![v1683, v1661] : Fin 2 → IVec S16 32) a x).toNat < S224x129.size a)
theorem k0_idx201_inb : ∀ (v1661 : IVec S16 32) (v1683 : IVec S16 32) (k0_hw201 : k0_chk201 v1661 v1683), ∀ a x, ((![v1683, v1661] : Fin 2 → IVec S16 32) a x).toNat < S224x129.size a := fun v1661 v1683 k0_hw201 => k0_hw201
def k0_off203 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk202 (v1661 : IVec S16 32) (v1688 : IVec S16 32) : Prop :=
  (∀ a x, ((![v1688, v1661] : Fin 2 → IVec S16 32) a x).toNat < S224x129.size a)
theorem k0_idx202_inb : ∀ (v1661 : IVec S16 32) (v1688 : IVec S16 32) (k0_hw202 : k0_chk202 v1661 v1688), ∀ a x, ((![v1688, v1661] : Fin 2 → IVec S16 32) a x).toNat < S224x129.size a := fun v1661 v1688 k0_hw202 => k0_hw202
def k0_off204 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk203 (v1661 : IVec S16 32) (v1693 : IVec S16 32) : Prop :=
  (∀ a x, ((![v1693, v1661] : Fin 2 → IVec S16 32) a x).toNat < S224x129.size a)
theorem k0_idx203_inb : ∀ (v1661 : IVec S16 32) (v1693 : IVec S16 32) (k0_hw203 : k0_chk203 v1661 v1693), ∀ a x, ((![v1693, v1661] : Fin 2 → IVec S16 32) a x).toNat < S224x129.size a := fun v1661 v1693 k0_hw203 => k0_hw203
def k0_off205 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk204 (v1661 : IVec S16 32) (v1698 : IVec S16 32) : Prop :=
  (∀ a x, ((![v1698, v1661] : Fin 2 → IVec S16 32) a x).toNat < S224x129.size a)
theorem k0_idx204_inb : ∀ (v1661 : IVec S16 32) (v1698 : IVec S16 32) (k0_hw204 : k0_chk204 v1661 v1698), ∀ a x, ((![v1698, v1661] : Fin 2 → IVec S16 32) a x).toNat < S224x129.size a := fun v1661 v1698 k0_hw204 => k0_hw204
def k0_off206 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk205 (v1661 : IVec S16 32) (v1703 : IVec S16 32) : Prop :=
  (∀ a x, ((![v1703, v1661] : Fin 2 → IVec S16 32) a x).toNat < S224x129.size a)
theorem k0_idx205_inb : ∀ (v1661 : IVec S16 32) (v1703 : IVec S16 32) (k0_hw205 : k0_chk205 v1661 v1703), ∀ a x, ((![v1703, v1661] : Fin 2 → IVec S16 32) a x).toNat < S224x129.size a := fun v1661 v1703 k0_hw205 => k0_hw205
def k0_off207 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk206 (v1661 : IVec S16 32) (v1708 : IVec S16 32) : Prop :=
  (∀ a x, ((![v1708, v1661] : Fin 2 → IVec S16 32) a x).toNat < S224x129.size a)
theorem k0_idx206_inb : ∀ (v1661 : IVec S16 32) (v1708 : IVec S16 32) (k0_hw206 : k0_chk206 v1661 v1708), ∀ a x, ((![v1708, v1661] : Fin 2 → IVec S16 32) a x).toNat < S224x129.size a := fun v1661 v1708 k0_hw206 => k0_hw206
def k0_off208 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk207 (v1661 : IVec S16 32) (v1713 : IVec S16 32) : Prop :=
  (∀ a x, ((![v1713, v1661] : Fin 2 → IVec S16 32) a x).toNat < S224x129.size a)
theorem k0_idx207_inb : ∀ (v1661 : IVec S16 32) (v1713 : IVec S16 32) (k0_hw207 : k0_chk207 v1661 v1713), ∀ a x, ((![v1713, v1661] : Fin 2 → IVec S16 32) a x).toNat < S224x129.size a := fun v1661 v1713 k0_hw207 => k0_hw207
def k0_off209 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk208 (v1661 : IVec S16 32) (v1718 : IVec S16 32) : Prop :=
  (∀ a x, ((![v1718, v1661] : Fin 2 → IVec S16 32) a x).toNat < S224x129.size a)
theorem k0_idx208_inb : ∀ (v1661 : IVec S16 32) (v1718 : IVec S16 32) (k0_hw208 : k0_chk208 v1661 v1718), ∀ a x, ((![v1718, v1661] : Fin 2 → IVec S16 32) a x).toNat < S224x129.size a := fun v1661 v1718 k0_hw208 => k0_hw208
def k0_off210 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk209 (v1661 : IVec S16 32) (v1723 : IVec S16 32) : Prop :=
  (∀ a x, ((![v1723, v1661] : Fin 2 → IVec S16 32) a x).toNat < S224x129.size a)
theorem k0_idx209_inb : ∀ (v1661 : IVec S16 32) (v1723 : IVec S16 32) (k0_hw209 : k0_chk209 v1661 v1723), ∀ a x, ((![v1723, v1661] : Fin 2 → IVec S16 32) a x).toNat < S224x129.size a := fun v1661 v1723 k0_hw209 => k0_hw209
def k0_off211 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk210 (v1661 : IVec S16 32) (v1728 : IVec S16 32) : Prop :=
  (∀ a x, ((![v1728, v1661] : Fin 2 → IVec S16 32) a x).toNat < S224x129.size a)
theorem k0_idx210_inb : ∀ (v1661 : IVec S16 32) (v1728 : IVec S16 32) (k0_hw210 : k0_chk210 v1661 v1728), ∀ a x, ((![v1728, v1661] : Fin 2 → IVec S16 32) a x).toNat < S224x129.size a := fun v1661 v1728 k0_hw210 => k0_hw210
def k0_off212 (k0_t15 : Fin k0_t15_loop.trips) : Fin 2 → Nat :=
  let c0_i32_1155 : BitVec 32 := 0#32
  let c0_i32_815 : BitVec 32 := 0#32
  let c1_i32_817 : BitVec 32 := 1#32
  let arg12 : BitVec 32 := Scf.iv c0_i32_815 c1_i32_817 k0_t15
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t16_loop : Scf.Loop 32 :=
  let c0_i32_870 : BitVec 32 := 0#32
  let c32_i32_871 : BitVec 32 := 32#32
  let v1244 : BitVec 32 := Scalar.addi c0_i32_870 c32_i32_871
  let c1_i32_872 : BitVec 32 := 1#32
  ⟨c0_i32_870, v1244, c1_i32_872⟩

def k0_chk211 (v1661 : IVec S16 32) (v1663 : IVec S16 32) : Prop :=
  (∀ a x, ((![v1663, v1661] : Fin 2 → IVec S16 32) a x).toNat < S224x129.size a)
theorem k0_idx211_inb : ∀ (v1661 : IVec S16 32) (v1663 : IVec S16 32) (k0_hw211 : k0_chk211 v1661 v1663), ∀ a x, ((![v1663, v1661] : Fin 2 → IVec S16 32) a x).toNat < S224x129.size a := fun v1661 v1663 k0_hw211 => k0_hw211
def k0_off213 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk212 (v1661 : IVec S16 32) (v1668 : IVec S16 32) : Prop :=
  (∀ a x, ((![v1668, v1661] : Fin 2 → IVec S16 32) a x).toNat < S224x129.size a)
theorem k0_idx212_inb : ∀ (v1661 : IVec S16 32) (v1668 : IVec S16 32) (k0_hw212 : k0_chk212 v1661 v1668), ∀ a x, ((![v1668, v1661] : Fin 2 → IVec S16 32) a x).toNat < S224x129.size a := fun v1661 v1668 k0_hw212 => k0_hw212
def k0_off214 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk213 (v1661 : IVec S16 32) (v1673 : IVec S16 32) : Prop :=
  (∀ a x, ((![v1673, v1661] : Fin 2 → IVec S16 32) a x).toNat < S224x129.size a)
theorem k0_idx213_inb : ∀ (v1661 : IVec S16 32) (v1673 : IVec S16 32) (k0_hw213 : k0_chk213 v1661 v1673), ∀ a x, ((![v1673, v1661] : Fin 2 → IVec S16 32) a x).toNat < S224x129.size a := fun v1661 v1673 k0_hw213 => k0_hw213
def k0_off215 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk214 (v1661 : IVec S16 32) (v1678 : IVec S16 32) : Prop :=
  (∀ a x, ((![v1678, v1661] : Fin 2 → IVec S16 32) a x).toNat < S224x129.size a)
theorem k0_idx214_inb : ∀ (v1661 : IVec S16 32) (v1678 : IVec S16 32) (k0_hw214 : k0_chk214 v1661 v1678), ∀ a x, ((![v1678, v1661] : Fin 2 → IVec S16 32) a x).toNat < S224x129.size a := fun v1661 v1678 k0_hw214 => k0_hw214
def k0_off216 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk215 (v1661 : IVec S16 32) (v1683 : IVec S16 32) : Prop :=
  (∀ a x, ((![v1683, v1661] : Fin 2 → IVec S16 32) a x).toNat < S224x129.size a)
theorem k0_idx215_inb : ∀ (v1661 : IVec S16 32) (v1683 : IVec S16 32) (k0_hw215 : k0_chk215 v1661 v1683), ∀ a x, ((![v1683, v1661] : Fin 2 → IVec S16 32) a x).toNat < S224x129.size a := fun v1661 v1683 k0_hw215 => k0_hw215
def k0_off217 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk216 (v1661 : IVec S16 32) (v1688 : IVec S16 32) : Prop :=
  (∀ a x, ((![v1688, v1661] : Fin 2 → IVec S16 32) a x).toNat < S224x129.size a)
theorem k0_idx216_inb : ∀ (v1661 : IVec S16 32) (v1688 : IVec S16 32) (k0_hw216 : k0_chk216 v1661 v1688), ∀ a x, ((![v1688, v1661] : Fin 2 → IVec S16 32) a x).toNat < S224x129.size a := fun v1661 v1688 k0_hw216 => k0_hw216
def k0_off218 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk217 (v1661 : IVec S16 32) (v1693 : IVec S16 32) : Prop :=
  (∀ a x, ((![v1693, v1661] : Fin 2 → IVec S16 32) a x).toNat < S224x129.size a)
theorem k0_idx217_inb : ∀ (v1661 : IVec S16 32) (v1693 : IVec S16 32) (k0_hw217 : k0_chk217 v1661 v1693), ∀ a x, ((![v1693, v1661] : Fin 2 → IVec S16 32) a x).toNat < S224x129.size a := fun v1661 v1693 k0_hw217 => k0_hw217
def k0_off219 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk218 (v1661 : IVec S16 32) (v1698 : IVec S16 32) : Prop :=
  (∀ a x, ((![v1698, v1661] : Fin 2 → IVec S16 32) a x).toNat < S224x129.size a)
theorem k0_idx218_inb : ∀ (v1661 : IVec S16 32) (v1698 : IVec S16 32) (k0_hw218 : k0_chk218 v1661 v1698), ∀ a x, ((![v1698, v1661] : Fin 2 → IVec S16 32) a x).toNat < S224x129.size a := fun v1661 v1698 k0_hw218 => k0_hw218
def k0_off220 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk219 (v1661 : IVec S16 32) (v1703 : IVec S16 32) : Prop :=
  (∀ a x, ((![v1703, v1661] : Fin 2 → IVec S16 32) a x).toNat < S224x129.size a)
theorem k0_idx219_inb : ∀ (v1661 : IVec S16 32) (v1703 : IVec S16 32) (k0_hw219 : k0_chk219 v1661 v1703), ∀ a x, ((![v1703, v1661] : Fin 2 → IVec S16 32) a x).toNat < S224x129.size a := fun v1661 v1703 k0_hw219 => k0_hw219
def k0_off221 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk220 (v1661 : IVec S16 32) (v1708 : IVec S16 32) : Prop :=
  (∀ a x, ((![v1708, v1661] : Fin 2 → IVec S16 32) a x).toNat < S224x129.size a)
theorem k0_idx220_inb : ∀ (v1661 : IVec S16 32) (v1708 : IVec S16 32) (k0_hw220 : k0_chk220 v1661 v1708), ∀ a x, ((![v1708, v1661] : Fin 2 → IVec S16 32) a x).toNat < S224x129.size a := fun v1661 v1708 k0_hw220 => k0_hw220
def k0_off222 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk221 (v1661 : IVec S16 32) (v1713 : IVec S16 32) : Prop :=
  (∀ a x, ((![v1713, v1661] : Fin 2 → IVec S16 32) a x).toNat < S224x129.size a)
theorem k0_idx221_inb : ∀ (v1661 : IVec S16 32) (v1713 : IVec S16 32) (k0_hw221 : k0_chk221 v1661 v1713), ∀ a x, ((![v1713, v1661] : Fin 2 → IVec S16 32) a x).toNat < S224x129.size a := fun v1661 v1713 k0_hw221 => k0_hw221
def k0_off223 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk222 (v1661 : IVec S16 32) (v1718 : IVec S16 32) : Prop :=
  (∀ a x, ((![v1718, v1661] : Fin 2 → IVec S16 32) a x).toNat < S224x129.size a)
theorem k0_idx222_inb : ∀ (v1661 : IVec S16 32) (v1718 : IVec S16 32) (k0_hw222 : k0_chk222 v1661 v1718), ∀ a x, ((![v1718, v1661] : Fin 2 → IVec S16 32) a x).toNat < S224x129.size a := fun v1661 v1718 k0_hw222 => k0_hw222
def k0_off224 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk223 (v1661 : IVec S16 32) (v1723 : IVec S16 32) : Prop :=
  (∀ a x, ((![v1723, v1661] : Fin 2 → IVec S16 32) a x).toNat < S224x129.size a)
theorem k0_idx223_inb : ∀ (v1661 : IVec S16 32) (v1723 : IVec S16 32) (k0_hw223 : k0_chk223 v1661 v1723), ∀ a x, ((![v1723, v1661] : Fin 2 → IVec S16 32) a x).toNat < S224x129.size a := fun v1661 v1723 k0_hw223 => k0_hw223
def k0_off225 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk224 (v1661 : IVec S16 32) (v1728 : IVec S16 32) : Prop :=
  (∀ a x, ((![v1728, v1661] : Fin 2 → IVec S16 32) a x).toNat < S224x129.size a)
theorem k0_idx224_inb : ∀ (v1661 : IVec S16 32) (v1728 : IVec S16 32) (k0_hw224 : k0_chk224 v1661 v1728), ∀ a x, ((![v1728, v1661] : Fin 2 → IVec S16 32) a x).toNat < S224x129.size a := fun v1661 v1728 k0_hw224 => k0_hw224
def k0_off226 (k0_t16 : Fin k0_t16_loop.trips) : Fin 2 → Nat :=
  let c0_i32_1155 : BitVec 32 := 0#32
  let c0_i32_870 : BitVec 32 := 0#32
  let c1_i32_872 : BitVec 32 := 1#32
  let arg12 : BitVec 32 := Scf.iv c0_i32_870 c1_i32_872 k0_t16
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t17_loop : Scf.Loop 32 :=
  let c0_i32_925 : BitVec 32 := 0#32
  let c32_i32_926 : BitVec 32 := 32#32
  let v1322 : BitVec 32 := Scalar.addi c0_i32_925 c32_i32_926
  let c1_i32_927 : BitVec 32 := 1#32
  ⟨c0_i32_925, v1322, c1_i32_927⟩

def k0_chk225 (v1661 : IVec S16 32) (v1663 : IVec S16 32) : Prop :=
  (∀ a x, ((![v1663, v1661] : Fin 2 → IVec S16 32) a x).toNat < S224x129.size a)
theorem k0_idx225_inb : ∀ (v1661 : IVec S16 32) (v1663 : IVec S16 32) (k0_hw225 : k0_chk225 v1661 v1663), ∀ a x, ((![v1663, v1661] : Fin 2 → IVec S16 32) a x).toNat < S224x129.size a := fun v1661 v1663 k0_hw225 => k0_hw225
def k0_off227 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk226 (v1661 : IVec S16 32) (v1668 : IVec S16 32) : Prop :=
  (∀ a x, ((![v1668, v1661] : Fin 2 → IVec S16 32) a x).toNat < S224x129.size a)
theorem k0_idx226_inb : ∀ (v1661 : IVec S16 32) (v1668 : IVec S16 32) (k0_hw226 : k0_chk226 v1661 v1668), ∀ a x, ((![v1668, v1661] : Fin 2 → IVec S16 32) a x).toNat < S224x129.size a := fun v1661 v1668 k0_hw226 => k0_hw226
def k0_off228 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk227 (v1661 : IVec S16 32) (v1673 : IVec S16 32) : Prop :=
  (∀ a x, ((![v1673, v1661] : Fin 2 → IVec S16 32) a x).toNat < S224x129.size a)
theorem k0_idx227_inb : ∀ (v1661 : IVec S16 32) (v1673 : IVec S16 32) (k0_hw227 : k0_chk227 v1661 v1673), ∀ a x, ((![v1673, v1661] : Fin 2 → IVec S16 32) a x).toNat < S224x129.size a := fun v1661 v1673 k0_hw227 => k0_hw227
def k0_off229 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk228 (v1661 : IVec S16 32) (v1678 : IVec S16 32) : Prop :=
  (∀ a x, ((![v1678, v1661] : Fin 2 → IVec S16 32) a x).toNat < S224x129.size a)
theorem k0_idx228_inb : ∀ (v1661 : IVec S16 32) (v1678 : IVec S16 32) (k0_hw228 : k0_chk228 v1661 v1678), ∀ a x, ((![v1678, v1661] : Fin 2 → IVec S16 32) a x).toNat < S224x129.size a := fun v1661 v1678 k0_hw228 => k0_hw228
def k0_off230 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk229 (v1661 : IVec S16 32) (v1683 : IVec S16 32) : Prop :=
  (∀ a x, ((![v1683, v1661] : Fin 2 → IVec S16 32) a x).toNat < S224x129.size a)
theorem k0_idx229_inb : ∀ (v1661 : IVec S16 32) (v1683 : IVec S16 32) (k0_hw229 : k0_chk229 v1661 v1683), ∀ a x, ((![v1683, v1661] : Fin 2 → IVec S16 32) a x).toNat < S224x129.size a := fun v1661 v1683 k0_hw229 => k0_hw229
def k0_off231 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk230 (v1661 : IVec S16 32) (v1688 : IVec S16 32) : Prop :=
  (∀ a x, ((![v1688, v1661] : Fin 2 → IVec S16 32) a x).toNat < S224x129.size a)
theorem k0_idx230_inb : ∀ (v1661 : IVec S16 32) (v1688 : IVec S16 32) (k0_hw230 : k0_chk230 v1661 v1688), ∀ a x, ((![v1688, v1661] : Fin 2 → IVec S16 32) a x).toNat < S224x129.size a := fun v1661 v1688 k0_hw230 => k0_hw230
def k0_off232 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk231 (v1661 : IVec S16 32) (v1693 : IVec S16 32) : Prop :=
  (∀ a x, ((![v1693, v1661] : Fin 2 → IVec S16 32) a x).toNat < S224x129.size a)
theorem k0_idx231_inb : ∀ (v1661 : IVec S16 32) (v1693 : IVec S16 32) (k0_hw231 : k0_chk231 v1661 v1693), ∀ a x, ((![v1693, v1661] : Fin 2 → IVec S16 32) a x).toNat < S224x129.size a := fun v1661 v1693 k0_hw231 => k0_hw231
def k0_off233 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk232 (v1661 : IVec S16 32) (v1698 : IVec S16 32) : Prop :=
  (∀ a x, ((![v1698, v1661] : Fin 2 → IVec S16 32) a x).toNat < S224x129.size a)
theorem k0_idx232_inb : ∀ (v1661 : IVec S16 32) (v1698 : IVec S16 32) (k0_hw232 : k0_chk232 v1661 v1698), ∀ a x, ((![v1698, v1661] : Fin 2 → IVec S16 32) a x).toNat < S224x129.size a := fun v1661 v1698 k0_hw232 => k0_hw232
def k0_off234 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk233 (v1661 : IVec S16 32) (v1703 : IVec S16 32) : Prop :=
  (∀ a x, ((![v1703, v1661] : Fin 2 → IVec S16 32) a x).toNat < S224x129.size a)
theorem k0_idx233_inb : ∀ (v1661 : IVec S16 32) (v1703 : IVec S16 32) (k0_hw233 : k0_chk233 v1661 v1703), ∀ a x, ((![v1703, v1661] : Fin 2 → IVec S16 32) a x).toNat < S224x129.size a := fun v1661 v1703 k0_hw233 => k0_hw233
def k0_off235 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk234 (v1661 : IVec S16 32) (v1708 : IVec S16 32) : Prop :=
  (∀ a x, ((![v1708, v1661] : Fin 2 → IVec S16 32) a x).toNat < S224x129.size a)
theorem k0_idx234_inb : ∀ (v1661 : IVec S16 32) (v1708 : IVec S16 32) (k0_hw234 : k0_chk234 v1661 v1708), ∀ a x, ((![v1708, v1661] : Fin 2 → IVec S16 32) a x).toNat < S224x129.size a := fun v1661 v1708 k0_hw234 => k0_hw234
def k0_off236 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk235 (v1661 : IVec S16 32) (v1713 : IVec S16 32) : Prop :=
  (∀ a x, ((![v1713, v1661] : Fin 2 → IVec S16 32) a x).toNat < S224x129.size a)
theorem k0_idx235_inb : ∀ (v1661 : IVec S16 32) (v1713 : IVec S16 32) (k0_hw235 : k0_chk235 v1661 v1713), ∀ a x, ((![v1713, v1661] : Fin 2 → IVec S16 32) a x).toNat < S224x129.size a := fun v1661 v1713 k0_hw235 => k0_hw235
def k0_off237 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk236 (v1661 : IVec S16 32) (v1718 : IVec S16 32) : Prop :=
  (∀ a x, ((![v1718, v1661] : Fin 2 → IVec S16 32) a x).toNat < S224x129.size a)
theorem k0_idx236_inb : ∀ (v1661 : IVec S16 32) (v1718 : IVec S16 32) (k0_hw236 : k0_chk236 v1661 v1718), ∀ a x, ((![v1718, v1661] : Fin 2 → IVec S16 32) a x).toNat < S224x129.size a := fun v1661 v1718 k0_hw236 => k0_hw236
def k0_off238 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk237 (v1661 : IVec S16 32) (v1723 : IVec S16 32) : Prop :=
  (∀ a x, ((![v1723, v1661] : Fin 2 → IVec S16 32) a x).toNat < S224x129.size a)
theorem k0_idx237_inb : ∀ (v1661 : IVec S16 32) (v1723 : IVec S16 32) (k0_hw237 : k0_chk237 v1661 v1723), ∀ a x, ((![v1723, v1661] : Fin 2 → IVec S16 32) a x).toNat < S224x129.size a := fun v1661 v1723 k0_hw237 => k0_hw237
def k0_off239 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk238 (v1661 : IVec S16 32) (v1728 : IVec S16 32) : Prop :=
  (∀ a x, ((![v1728, v1661] : Fin 2 → IVec S16 32) a x).toNat < S224x129.size a)
theorem k0_idx238_inb : ∀ (v1661 : IVec S16 32) (v1728 : IVec S16 32) (k0_hw238 : k0_chk238 v1661 v1728), ∀ a x, ((![v1728, v1661] : Fin 2 → IVec S16 32) a x).toNat < S224x129.size a := fun v1661 v1728 k0_hw238 => k0_hw238
def k0_off240 (k0_t17 : Fin k0_t17_loop.trips) : Fin 2 → Nat :=
  let c0_i32_1155 : BitVec 32 := 0#32
  let c0_i32_925 : BitVec 32 := 0#32
  let c1_i32_927 : BitVec 32 := 1#32
  let arg12 : BitVec 32 := Scf.iv c0_i32_925 c1_i32_927 k0_t17
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t18_loop : Scf.Loop 32 :=
  let c0_i32_980 : BitVec 32 := 0#32
  let c32_i32_981 : BitVec 32 := 32#32
  let v1400 : BitVec 32 := Scalar.addi c0_i32_980 c32_i32_981
  let c1_i32_982 : BitVec 32 := 1#32
  ⟨c0_i32_980, v1400, c1_i32_982⟩

def k0_chk239 (v1661 : IVec S16 32) (v1663 : IVec S16 32) : Prop :=
  (∀ a x, ((![v1663, v1661] : Fin 2 → IVec S16 32) a x).toNat < S224x129.size a)
theorem k0_idx239_inb : ∀ (v1661 : IVec S16 32) (v1663 : IVec S16 32) (k0_hw239 : k0_chk239 v1661 v1663), ∀ a x, ((![v1663, v1661] : Fin 2 → IVec S16 32) a x).toNat < S224x129.size a := fun v1661 v1663 k0_hw239 => k0_hw239
def k0_off241 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk240 (v1661 : IVec S16 32) (v1668 : IVec S16 32) : Prop :=
  (∀ a x, ((![v1668, v1661] : Fin 2 → IVec S16 32) a x).toNat < S224x129.size a)
theorem k0_idx240_inb : ∀ (v1661 : IVec S16 32) (v1668 : IVec S16 32) (k0_hw240 : k0_chk240 v1661 v1668), ∀ a x, ((![v1668, v1661] : Fin 2 → IVec S16 32) a x).toNat < S224x129.size a := fun v1661 v1668 k0_hw240 => k0_hw240
def k0_off242 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk241 (v1661 : IVec S16 32) (v1673 : IVec S16 32) : Prop :=
  (∀ a x, ((![v1673, v1661] : Fin 2 → IVec S16 32) a x).toNat < S224x129.size a)
theorem k0_idx241_inb : ∀ (v1661 : IVec S16 32) (v1673 : IVec S16 32) (k0_hw241 : k0_chk241 v1661 v1673), ∀ a x, ((![v1673, v1661] : Fin 2 → IVec S16 32) a x).toNat < S224x129.size a := fun v1661 v1673 k0_hw241 => k0_hw241
def k0_off243 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk242 (v1661 : IVec S16 32) (v1678 : IVec S16 32) : Prop :=
  (∀ a x, ((![v1678, v1661] : Fin 2 → IVec S16 32) a x).toNat < S224x129.size a)
theorem k0_idx242_inb : ∀ (v1661 : IVec S16 32) (v1678 : IVec S16 32) (k0_hw242 : k0_chk242 v1661 v1678), ∀ a x, ((![v1678, v1661] : Fin 2 → IVec S16 32) a x).toNat < S224x129.size a := fun v1661 v1678 k0_hw242 => k0_hw242
def k0_off244 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk243 (v1661 : IVec S16 32) (v1683 : IVec S16 32) : Prop :=
  (∀ a x, ((![v1683, v1661] : Fin 2 → IVec S16 32) a x).toNat < S224x129.size a)
theorem k0_idx243_inb : ∀ (v1661 : IVec S16 32) (v1683 : IVec S16 32) (k0_hw243 : k0_chk243 v1661 v1683), ∀ a x, ((![v1683, v1661] : Fin 2 → IVec S16 32) a x).toNat < S224x129.size a := fun v1661 v1683 k0_hw243 => k0_hw243
def k0_off245 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk244 (v1661 : IVec S16 32) (v1688 : IVec S16 32) : Prop :=
  (∀ a x, ((![v1688, v1661] : Fin 2 → IVec S16 32) a x).toNat < S224x129.size a)
theorem k0_idx244_inb : ∀ (v1661 : IVec S16 32) (v1688 : IVec S16 32) (k0_hw244 : k0_chk244 v1661 v1688), ∀ a x, ((![v1688, v1661] : Fin 2 → IVec S16 32) a x).toNat < S224x129.size a := fun v1661 v1688 k0_hw244 => k0_hw244
def k0_off246 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk245 (v1661 : IVec S16 32) (v1693 : IVec S16 32) : Prop :=
  (∀ a x, ((![v1693, v1661] : Fin 2 → IVec S16 32) a x).toNat < S224x129.size a)
theorem k0_idx245_inb : ∀ (v1661 : IVec S16 32) (v1693 : IVec S16 32) (k0_hw245 : k0_chk245 v1661 v1693), ∀ a x, ((![v1693, v1661] : Fin 2 → IVec S16 32) a x).toNat < S224x129.size a := fun v1661 v1693 k0_hw245 => k0_hw245
def k0_off247 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk246 (v1661 : IVec S16 32) (v1698 : IVec S16 32) : Prop :=
  (∀ a x, ((![v1698, v1661] : Fin 2 → IVec S16 32) a x).toNat < S224x129.size a)
theorem k0_idx246_inb : ∀ (v1661 : IVec S16 32) (v1698 : IVec S16 32) (k0_hw246 : k0_chk246 v1661 v1698), ∀ a x, ((![v1698, v1661] : Fin 2 → IVec S16 32) a x).toNat < S224x129.size a := fun v1661 v1698 k0_hw246 => k0_hw246
def k0_off248 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk247 (v1661 : IVec S16 32) (v1703 : IVec S16 32) : Prop :=
  (∀ a x, ((![v1703, v1661] : Fin 2 → IVec S16 32) a x).toNat < S224x129.size a)
theorem k0_idx247_inb : ∀ (v1661 : IVec S16 32) (v1703 : IVec S16 32) (k0_hw247 : k0_chk247 v1661 v1703), ∀ a x, ((![v1703, v1661] : Fin 2 → IVec S16 32) a x).toNat < S224x129.size a := fun v1661 v1703 k0_hw247 => k0_hw247
def k0_off249 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk248 (v1661 : IVec S16 32) (v1708 : IVec S16 32) : Prop :=
  (∀ a x, ((![v1708, v1661] : Fin 2 → IVec S16 32) a x).toNat < S224x129.size a)
theorem k0_idx248_inb : ∀ (v1661 : IVec S16 32) (v1708 : IVec S16 32) (k0_hw248 : k0_chk248 v1661 v1708), ∀ a x, ((![v1708, v1661] : Fin 2 → IVec S16 32) a x).toNat < S224x129.size a := fun v1661 v1708 k0_hw248 => k0_hw248
def k0_off250 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk249 (v1661 : IVec S16 32) (v1713 : IVec S16 32) : Prop :=
  (∀ a x, ((![v1713, v1661] : Fin 2 → IVec S16 32) a x).toNat < S224x129.size a)
theorem k0_idx249_inb : ∀ (v1661 : IVec S16 32) (v1713 : IVec S16 32) (k0_hw249 : k0_chk249 v1661 v1713), ∀ a x, ((![v1713, v1661] : Fin 2 → IVec S16 32) a x).toNat < S224x129.size a := fun v1661 v1713 k0_hw249 => k0_hw249
def k0_off251 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk250 (v1661 : IVec S16 32) (v1718 : IVec S16 32) : Prop :=
  (∀ a x, ((![v1718, v1661] : Fin 2 → IVec S16 32) a x).toNat < S224x129.size a)
theorem k0_idx250_inb : ∀ (v1661 : IVec S16 32) (v1718 : IVec S16 32) (k0_hw250 : k0_chk250 v1661 v1718), ∀ a x, ((![v1718, v1661] : Fin 2 → IVec S16 32) a x).toNat < S224x129.size a := fun v1661 v1718 k0_hw250 => k0_hw250
def k0_off252 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk251 (v1661 : IVec S16 32) (v1723 : IVec S16 32) : Prop :=
  (∀ a x, ((![v1723, v1661] : Fin 2 → IVec S16 32) a x).toNat < S224x129.size a)
theorem k0_idx251_inb : ∀ (v1661 : IVec S16 32) (v1723 : IVec S16 32) (k0_hw251 : k0_chk251 v1661 v1723), ∀ a x, ((![v1723, v1661] : Fin 2 → IVec S16 32) a x).toNat < S224x129.size a := fun v1661 v1723 k0_hw251 => k0_hw251
def k0_off253 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk252 (v1661 : IVec S16 32) (v1728 : IVec S16 32) : Prop :=
  (∀ a x, ((![v1728, v1661] : Fin 2 → IVec S16 32) a x).toNat < S224x129.size a)
theorem k0_idx252_inb : ∀ (v1661 : IVec S16 32) (v1728 : IVec S16 32) (k0_hw252 : k0_chk252 v1661 v1728), ∀ a x, ((![v1728, v1661] : Fin 2 → IVec S16 32) a x).toNat < S224x129.size a := fun v1661 v1728 k0_hw252 => k0_hw252
def k0_off254 (k0_t18 : Fin k0_t18_loop.trips) : Fin 2 → Nat :=
  let c0_i32_1155 : BitVec 32 := 0#32
  let c0_i32_980 : BitVec 32 := 0#32
  let c1_i32_982 : BitVec 32 := 1#32
  let arg12 : BitVec 32 := Scf.iv c0_i32_980 c1_i32_982 k0_t18
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t19_loop : Scf.Loop 32 :=
  let c0_i32_1035 : BitVec 32 := 0#32
  let c32_i32_1036 : BitVec 32 := 32#32
  let v1478 : BitVec 32 := Scalar.addi c0_i32_1035 c32_i32_1036
  let c1_i32_1037 : BitVec 32 := 1#32
  ⟨c0_i32_1035, v1478, c1_i32_1037⟩

def k0_chk253 (v1661 : IVec S16 32) (v1663 : IVec S16 32) : Prop :=
  (∀ a x, ((![v1663, v1661] : Fin 2 → IVec S16 32) a x).toNat < S224x129.size a)
theorem k0_idx253_inb : ∀ (v1661 : IVec S16 32) (v1663 : IVec S16 32) (k0_hw253 : k0_chk253 v1661 v1663), ∀ a x, ((![v1663, v1661] : Fin 2 → IVec S16 32) a x).toNat < S224x129.size a := fun v1661 v1663 k0_hw253 => k0_hw253
def k0_off255 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk254 (v1661 : IVec S16 32) (v1668 : IVec S16 32) : Prop :=
  (∀ a x, ((![v1668, v1661] : Fin 2 → IVec S16 32) a x).toNat < S224x129.size a)
theorem k0_idx254_inb : ∀ (v1661 : IVec S16 32) (v1668 : IVec S16 32) (k0_hw254 : k0_chk254 v1661 v1668), ∀ a x, ((![v1668, v1661] : Fin 2 → IVec S16 32) a x).toNat < S224x129.size a := fun v1661 v1668 k0_hw254 => k0_hw254
def k0_off256 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk255 (v1661 : IVec S16 32) (v1673 : IVec S16 32) : Prop :=
  (∀ a x, ((![v1673, v1661] : Fin 2 → IVec S16 32) a x).toNat < S224x129.size a)
theorem k0_idx255_inb : ∀ (v1661 : IVec S16 32) (v1673 : IVec S16 32) (k0_hw255 : k0_chk255 v1661 v1673), ∀ a x, ((![v1673, v1661] : Fin 2 → IVec S16 32) a x).toNat < S224x129.size a := fun v1661 v1673 k0_hw255 => k0_hw255
def k0_off257 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk256 (v1661 : IVec S16 32) (v1678 : IVec S16 32) : Prop :=
  (∀ a x, ((![v1678, v1661] : Fin 2 → IVec S16 32) a x).toNat < S224x129.size a)
theorem k0_idx256_inb : ∀ (v1661 : IVec S16 32) (v1678 : IVec S16 32) (k0_hw256 : k0_chk256 v1661 v1678), ∀ a x, ((![v1678, v1661] : Fin 2 → IVec S16 32) a x).toNat < S224x129.size a := fun v1661 v1678 k0_hw256 => k0_hw256
def k0_off258 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk257 (v1661 : IVec S16 32) (v1683 : IVec S16 32) : Prop :=
  (∀ a x, ((![v1683, v1661] : Fin 2 → IVec S16 32) a x).toNat < S224x129.size a)
theorem k0_idx257_inb : ∀ (v1661 : IVec S16 32) (v1683 : IVec S16 32) (k0_hw257 : k0_chk257 v1661 v1683), ∀ a x, ((![v1683, v1661] : Fin 2 → IVec S16 32) a x).toNat < S224x129.size a := fun v1661 v1683 k0_hw257 => k0_hw257
def k0_off259 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk258 (v1661 : IVec S16 32) (v1688 : IVec S16 32) : Prop :=
  (∀ a x, ((![v1688, v1661] : Fin 2 → IVec S16 32) a x).toNat < S224x129.size a)
theorem k0_idx258_inb : ∀ (v1661 : IVec S16 32) (v1688 : IVec S16 32) (k0_hw258 : k0_chk258 v1661 v1688), ∀ a x, ((![v1688, v1661] : Fin 2 → IVec S16 32) a x).toNat < S224x129.size a := fun v1661 v1688 k0_hw258 => k0_hw258
def k0_off260 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk259 (v1661 : IVec S16 32) (v1693 : IVec S16 32) : Prop :=
  (∀ a x, ((![v1693, v1661] : Fin 2 → IVec S16 32) a x).toNat < S224x129.size a)
theorem k0_idx259_inb : ∀ (v1661 : IVec S16 32) (v1693 : IVec S16 32) (k0_hw259 : k0_chk259 v1661 v1693), ∀ a x, ((![v1693, v1661] : Fin 2 → IVec S16 32) a x).toNat < S224x129.size a := fun v1661 v1693 k0_hw259 => k0_hw259
def k0_off261 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk260 (v1661 : IVec S16 32) (v1698 : IVec S16 32) : Prop :=
  (∀ a x, ((![v1698, v1661] : Fin 2 → IVec S16 32) a x).toNat < S224x129.size a)
theorem k0_idx260_inb : ∀ (v1661 : IVec S16 32) (v1698 : IVec S16 32) (k0_hw260 : k0_chk260 v1661 v1698), ∀ a x, ((![v1698, v1661] : Fin 2 → IVec S16 32) a x).toNat < S224x129.size a := fun v1661 v1698 k0_hw260 => k0_hw260
def k0_off262 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk261 (v1661 : IVec S16 32) (v1703 : IVec S16 32) : Prop :=
  (∀ a x, ((![v1703, v1661] : Fin 2 → IVec S16 32) a x).toNat < S224x129.size a)
theorem k0_idx261_inb : ∀ (v1661 : IVec S16 32) (v1703 : IVec S16 32) (k0_hw261 : k0_chk261 v1661 v1703), ∀ a x, ((![v1703, v1661] : Fin 2 → IVec S16 32) a x).toNat < S224x129.size a := fun v1661 v1703 k0_hw261 => k0_hw261
def k0_off263 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk262 (v1661 : IVec S16 32) (v1708 : IVec S16 32) : Prop :=
  (∀ a x, ((![v1708, v1661] : Fin 2 → IVec S16 32) a x).toNat < S224x129.size a)
theorem k0_idx262_inb : ∀ (v1661 : IVec S16 32) (v1708 : IVec S16 32) (k0_hw262 : k0_chk262 v1661 v1708), ∀ a x, ((![v1708, v1661] : Fin 2 → IVec S16 32) a x).toNat < S224x129.size a := fun v1661 v1708 k0_hw262 => k0_hw262
def k0_off264 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk263 (v1661 : IVec S16 32) (v1713 : IVec S16 32) : Prop :=
  (∀ a x, ((![v1713, v1661] : Fin 2 → IVec S16 32) a x).toNat < S224x129.size a)
theorem k0_idx263_inb : ∀ (v1661 : IVec S16 32) (v1713 : IVec S16 32) (k0_hw263 : k0_chk263 v1661 v1713), ∀ a x, ((![v1713, v1661] : Fin 2 → IVec S16 32) a x).toNat < S224x129.size a := fun v1661 v1713 k0_hw263 => k0_hw263
def k0_off265 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk264 (v1661 : IVec S16 32) (v1718 : IVec S16 32) : Prop :=
  (∀ a x, ((![v1718, v1661] : Fin 2 → IVec S16 32) a x).toNat < S224x129.size a)
theorem k0_idx264_inb : ∀ (v1661 : IVec S16 32) (v1718 : IVec S16 32) (k0_hw264 : k0_chk264 v1661 v1718), ∀ a x, ((![v1718, v1661] : Fin 2 → IVec S16 32) a x).toNat < S224x129.size a := fun v1661 v1718 k0_hw264 => k0_hw264
def k0_off266 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk265 (v1661 : IVec S16 32) (v1723 : IVec S16 32) : Prop :=
  (∀ a x, ((![v1723, v1661] : Fin 2 → IVec S16 32) a x).toNat < S224x129.size a)
theorem k0_idx265_inb : ∀ (v1661 : IVec S16 32) (v1723 : IVec S16 32) (k0_hw265 : k0_chk265 v1661 v1723), ∀ a x, ((![v1723, v1661] : Fin 2 → IVec S16 32) a x).toNat < S224x129.size a := fun v1661 v1723 k0_hw265 => k0_hw265
def k0_off267 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk266 (v1661 : IVec S16 32) (v1728 : IVec S16 32) : Prop :=
  (∀ a x, ((![v1728, v1661] : Fin 2 → IVec S16 32) a x).toNat < S224x129.size a)
theorem k0_idx266_inb : ∀ (v1661 : IVec S16 32) (v1728 : IVec S16 32) (k0_hw266 : k0_chk266 v1661 v1728), ∀ a x, ((![v1728, v1661] : Fin 2 → IVec S16 32) a x).toNat < S224x129.size a := fun v1661 v1728 k0_hw266 => k0_hw266
def k0_off268 (k0_t19 : Fin k0_t19_loop.trips) : Fin 2 → Nat :=
  let c0_i32_1155 : BitVec 32 := 0#32
  let c0_i32_1035 : BitVec 32 := 0#32
  let c1_i32_1037 : BitVec 32 := 1#32
  let arg12 : BitVec 32 := Scf.iv c0_i32_1035 c1_i32_1037 k0_t19
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t20_loop : Scf.Loop 32 :=
  let c0_i32_1090 : BitVec 32 := 0#32
  let c32_i32_1091 : BitVec 32 := 32#32
  let v1556 : BitVec 32 := Scalar.addi c0_i32_1090 c32_i32_1091
  let c1_i32_1092 : BitVec 32 := 1#32
  ⟨c0_i32_1090, v1556, c1_i32_1092⟩

def k0_chk267 (v1661 : IVec S16 32) (v1663 : IVec S16 32) : Prop :=
  (∀ a x, ((![v1663, v1661] : Fin 2 → IVec S16 32) a x).toNat < S224x129.size a)
theorem k0_idx267_inb : ∀ (v1661 : IVec S16 32) (v1663 : IVec S16 32) (k0_hw267 : k0_chk267 v1661 v1663), ∀ a x, ((![v1663, v1661] : Fin 2 → IVec S16 32) a x).toNat < S224x129.size a := fun v1661 v1663 k0_hw267 => k0_hw267
def k0_off269 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk268 (v1661 : IVec S16 32) (v1668 : IVec S16 32) : Prop :=
  (∀ a x, ((![v1668, v1661] : Fin 2 → IVec S16 32) a x).toNat < S224x129.size a)
theorem k0_idx268_inb : ∀ (v1661 : IVec S16 32) (v1668 : IVec S16 32) (k0_hw268 : k0_chk268 v1661 v1668), ∀ a x, ((![v1668, v1661] : Fin 2 → IVec S16 32) a x).toNat < S224x129.size a := fun v1661 v1668 k0_hw268 => k0_hw268
def k0_off270 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk269 (v1661 : IVec S16 32) (v1673 : IVec S16 32) : Prop :=
  (∀ a x, ((![v1673, v1661] : Fin 2 → IVec S16 32) a x).toNat < S224x129.size a)
theorem k0_idx269_inb : ∀ (v1661 : IVec S16 32) (v1673 : IVec S16 32) (k0_hw269 : k0_chk269 v1661 v1673), ∀ a x, ((![v1673, v1661] : Fin 2 → IVec S16 32) a x).toNat < S224x129.size a := fun v1661 v1673 k0_hw269 => k0_hw269
def k0_off271 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk270 (v1661 : IVec S16 32) (v1678 : IVec S16 32) : Prop :=
  (∀ a x, ((![v1678, v1661] : Fin 2 → IVec S16 32) a x).toNat < S224x129.size a)
theorem k0_idx270_inb : ∀ (v1661 : IVec S16 32) (v1678 : IVec S16 32) (k0_hw270 : k0_chk270 v1661 v1678), ∀ a x, ((![v1678, v1661] : Fin 2 → IVec S16 32) a x).toNat < S224x129.size a := fun v1661 v1678 k0_hw270 => k0_hw270
def k0_off272 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk271 (v1661 : IVec S16 32) (v1683 : IVec S16 32) : Prop :=
  (∀ a x, ((![v1683, v1661] : Fin 2 → IVec S16 32) a x).toNat < S224x129.size a)
theorem k0_idx271_inb : ∀ (v1661 : IVec S16 32) (v1683 : IVec S16 32) (k0_hw271 : k0_chk271 v1661 v1683), ∀ a x, ((![v1683, v1661] : Fin 2 → IVec S16 32) a x).toNat < S224x129.size a := fun v1661 v1683 k0_hw271 => k0_hw271
def k0_off273 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk272 (v1661 : IVec S16 32) (v1688 : IVec S16 32) : Prop :=
  (∀ a x, ((![v1688, v1661] : Fin 2 → IVec S16 32) a x).toNat < S224x129.size a)
theorem k0_idx272_inb : ∀ (v1661 : IVec S16 32) (v1688 : IVec S16 32) (k0_hw272 : k0_chk272 v1661 v1688), ∀ a x, ((![v1688, v1661] : Fin 2 → IVec S16 32) a x).toNat < S224x129.size a := fun v1661 v1688 k0_hw272 => k0_hw272
def k0_off274 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk273 (v1661 : IVec S16 32) (v1693 : IVec S16 32) : Prop :=
  (∀ a x, ((![v1693, v1661] : Fin 2 → IVec S16 32) a x).toNat < S224x129.size a)
theorem k0_idx273_inb : ∀ (v1661 : IVec S16 32) (v1693 : IVec S16 32) (k0_hw273 : k0_chk273 v1661 v1693), ∀ a x, ((![v1693, v1661] : Fin 2 → IVec S16 32) a x).toNat < S224x129.size a := fun v1661 v1693 k0_hw273 => k0_hw273
def k0_off275 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk274 (v1661 : IVec S16 32) (v1698 : IVec S16 32) : Prop :=
  (∀ a x, ((![v1698, v1661] : Fin 2 → IVec S16 32) a x).toNat < S224x129.size a)
theorem k0_idx274_inb : ∀ (v1661 : IVec S16 32) (v1698 : IVec S16 32) (k0_hw274 : k0_chk274 v1661 v1698), ∀ a x, ((![v1698, v1661] : Fin 2 → IVec S16 32) a x).toNat < S224x129.size a := fun v1661 v1698 k0_hw274 => k0_hw274
def k0_off276 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk275 (v1661 : IVec S16 32) (v1703 : IVec S16 32) : Prop :=
  (∀ a x, ((![v1703, v1661] : Fin 2 → IVec S16 32) a x).toNat < S224x129.size a)
theorem k0_idx275_inb : ∀ (v1661 : IVec S16 32) (v1703 : IVec S16 32) (k0_hw275 : k0_chk275 v1661 v1703), ∀ a x, ((![v1703, v1661] : Fin 2 → IVec S16 32) a x).toNat < S224x129.size a := fun v1661 v1703 k0_hw275 => k0_hw275
def k0_off277 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk276 (v1661 : IVec S16 32) (v1708 : IVec S16 32) : Prop :=
  (∀ a x, ((![v1708, v1661] : Fin 2 → IVec S16 32) a x).toNat < S224x129.size a)
theorem k0_idx276_inb : ∀ (v1661 : IVec S16 32) (v1708 : IVec S16 32) (k0_hw276 : k0_chk276 v1661 v1708), ∀ a x, ((![v1708, v1661] : Fin 2 → IVec S16 32) a x).toNat < S224x129.size a := fun v1661 v1708 k0_hw276 => k0_hw276
def k0_off278 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk277 (v1661 : IVec S16 32) (v1713 : IVec S16 32) : Prop :=
  (∀ a x, ((![v1713, v1661] : Fin 2 → IVec S16 32) a x).toNat < S224x129.size a)
theorem k0_idx277_inb : ∀ (v1661 : IVec S16 32) (v1713 : IVec S16 32) (k0_hw277 : k0_chk277 v1661 v1713), ∀ a x, ((![v1713, v1661] : Fin 2 → IVec S16 32) a x).toNat < S224x129.size a := fun v1661 v1713 k0_hw277 => k0_hw277
def k0_off279 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk278 (v1661 : IVec S16 32) (v1718 : IVec S16 32) : Prop :=
  (∀ a x, ((![v1718, v1661] : Fin 2 → IVec S16 32) a x).toNat < S224x129.size a)
theorem k0_idx278_inb : ∀ (v1661 : IVec S16 32) (v1718 : IVec S16 32) (k0_hw278 : k0_chk278 v1661 v1718), ∀ a x, ((![v1718, v1661] : Fin 2 → IVec S16 32) a x).toNat < S224x129.size a := fun v1661 v1718 k0_hw278 => k0_hw278
def k0_off280 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk279 (v1661 : IVec S16 32) (v1723 : IVec S16 32) : Prop :=
  (∀ a x, ((![v1723, v1661] : Fin 2 → IVec S16 32) a x).toNat < S224x129.size a)
theorem k0_idx279_inb : ∀ (v1661 : IVec S16 32) (v1723 : IVec S16 32) (k0_hw279 : k0_chk279 v1661 v1723), ∀ a x, ((![v1723, v1661] : Fin 2 → IVec S16 32) a x).toNat < S224x129.size a := fun v1661 v1723 k0_hw279 => k0_hw279
def k0_off281 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk280 (v1661 : IVec S16 32) (v1728 : IVec S16 32) : Prop :=
  (∀ a x, ((![v1728, v1661] : Fin 2 → IVec S16 32) a x).toNat < S224x129.size a)
theorem k0_idx280_inb : ∀ (v1661 : IVec S16 32) (v1728 : IVec S16 32) (k0_hw280 : k0_chk280 v1661 v1728), ∀ a x, ((![v1728, v1661] : Fin 2 → IVec S16 32) a x).toNat < S224x129.size a := fun v1661 v1728 k0_hw280 => k0_hw280
def k0_off282 (k0_t20 : Fin k0_t20_loop.trips) : Fin 2 → Nat :=
  let c0_i32_1155 : BitVec 32 := 0#32
  let c0_i32_1090 : BitVec 32 := 0#32
  let c1_i32_1092 : BitVec 32 := 1#32
  let arg12 : BitVec 32 := Scf.iv c0_i32_1090 c1_i32_1092 k0_t20
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
@[reducible] def k0_t21_loop : Scf.Loop 32 :=
  let c0_i32_1124 : BitVec 32 := 0#32
  let c32_i32_1125 : BitVec 32 := 32#32
  let v1600 : BitVec 32 := Scalar.addi c0_i32_1124 c32_i32_1125
  let c1_i32_1126 : BitVec 32 := 1#32
  ⟨c0_i32_1124, v1600, c1_i32_1126⟩

def k0_chk281 (v1661 : IVec S16 32) (v1663 : IVec S16 32) : Prop :=
  (∀ a x, ((![v1663, v1661] : Fin 2 → IVec S16 32) a x).toNat < S224x129.size a)
theorem k0_idx281_inb : ∀ (v1661 : IVec S16 32) (v1663 : IVec S16 32) (k0_hw281 : k0_chk281 v1661 v1663), ∀ a x, ((![v1663, v1661] : Fin 2 → IVec S16 32) a x).toNat < S224x129.size a := fun v1661 v1663 k0_hw281 => k0_hw281
def k0_off283 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1665 : Index := Scalar.indexCast v1642
  let c0 : Index := 0#32
  ![v1665.toNat, 0]

def k0_chk282 (v1661 : IVec S16 32) (v1668 : IVec S16 32) : Prop :=
  (∀ a x, ((![v1668, v1661] : Fin 2 → IVec S16 32) a x).toNat < S224x129.size a)
theorem k0_idx282_inb : ∀ (v1661 : IVec S16 32) (v1668 : IVec S16 32) (k0_hw282 : k0_chk282 v1661 v1668), ∀ a x, ((![v1668, v1661] : Fin 2 → IVec S16 32) a x).toNat < S224x129.size a := fun v1661 v1668 k0_hw282 => k0_hw282
def k0_off284 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1670 : Index := Scalar.indexCast v1642
  let c16 : Index := 16#32
  ![v1670.toNat, 16]

def k0_chk283 (v1661 : IVec S16 32) (v1673 : IVec S16 32) : Prop :=
  (∀ a x, ((![v1673, v1661] : Fin 2 → IVec S16 32) a x).toNat < S224x129.size a)
theorem k0_idx283_inb : ∀ (v1661 : IVec S16 32) (v1673 : IVec S16 32) (k0_hw283 : k0_chk283 v1661 v1673), ∀ a x, ((![v1673, v1661] : Fin 2 → IVec S16 32) a x).toNat < S224x129.size a := fun v1661 v1673 k0_hw283 => k0_hw283
def k0_off285 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1675 : Index := Scalar.indexCast v1642
  let c32 : Index := 32#32
  ![v1675.toNat, 32]

def k0_chk284 (v1661 : IVec S16 32) (v1678 : IVec S16 32) : Prop :=
  (∀ a x, ((![v1678, v1661] : Fin 2 → IVec S16 32) a x).toNat < S224x129.size a)
theorem k0_idx284_inb : ∀ (v1661 : IVec S16 32) (v1678 : IVec S16 32) (k0_hw284 : k0_chk284 v1661 v1678), ∀ a x, ((![v1678, v1661] : Fin 2 → IVec S16 32) a x).toNat < S224x129.size a := fun v1661 v1678 k0_hw284 => k0_hw284
def k0_off286 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1680 : Index := Scalar.indexCast v1642
  let c48 : Index := 48#32
  ![v1680.toNat, 48]

def k0_chk285 (v1661 : IVec S16 32) (v1683 : IVec S16 32) : Prop :=
  (∀ a x, ((![v1683, v1661] : Fin 2 → IVec S16 32) a x).toNat < S224x129.size a)
theorem k0_idx285_inb : ∀ (v1661 : IVec S16 32) (v1683 : IVec S16 32) (k0_hw285 : k0_chk285 v1661 v1683), ∀ a x, ((![v1683, v1661] : Fin 2 → IVec S16 32) a x).toNat < S224x129.size a := fun v1661 v1683 k0_hw285 => k0_hw285
def k0_off287 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1685 : Index := Scalar.indexCast v1642
  let c64 : Index := 64#32
  ![v1685.toNat, 64]

def k0_chk286 (v1661 : IVec S16 32) (v1688 : IVec S16 32) : Prop :=
  (∀ a x, ((![v1688, v1661] : Fin 2 → IVec S16 32) a x).toNat < S224x129.size a)
theorem k0_idx286_inb : ∀ (v1661 : IVec S16 32) (v1688 : IVec S16 32) (k0_hw286 : k0_chk286 v1661 v1688), ∀ a x, ((![v1688, v1661] : Fin 2 → IVec S16 32) a x).toNat < S224x129.size a := fun v1661 v1688 k0_hw286 => k0_hw286
def k0_off288 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1690 : Index := Scalar.indexCast v1642
  let c80 : Index := 80#32
  ![v1690.toNat, 80]

def k0_chk287 (v1661 : IVec S16 32) (v1693 : IVec S16 32) : Prop :=
  (∀ a x, ((![v1693, v1661] : Fin 2 → IVec S16 32) a x).toNat < S224x129.size a)
theorem k0_idx287_inb : ∀ (v1661 : IVec S16 32) (v1693 : IVec S16 32) (k0_hw287 : k0_chk287 v1661 v1693), ∀ a x, ((![v1693, v1661] : Fin 2 → IVec S16 32) a x).toNat < S224x129.size a := fun v1661 v1693 k0_hw287 => k0_hw287
def k0_off289 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1695 : Index := Scalar.indexCast v1642
  let c96 : Index := 96#32
  ![v1695.toNat, 96]

def k0_chk288 (v1661 : IVec S16 32) (v1698 : IVec S16 32) : Prop :=
  (∀ a x, ((![v1698, v1661] : Fin 2 → IVec S16 32) a x).toNat < S224x129.size a)
theorem k0_idx288_inb : ∀ (v1661 : IVec S16 32) (v1698 : IVec S16 32) (k0_hw288 : k0_chk288 v1661 v1698), ∀ a x, ((![v1698, v1661] : Fin 2 → IVec S16 32) a x).toNat < S224x129.size a := fun v1661 v1698 k0_hw288 => k0_hw288
def k0_off290 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1700 : Index := Scalar.indexCast v1642
  let c112 : Index := 112#32
  ![v1700.toNat, 112]

def k0_chk289 (v1661 : IVec S16 32) (v1703 : IVec S16 32) : Prop :=
  (∀ a x, ((![v1703, v1661] : Fin 2 → IVec S16 32) a x).toNat < S224x129.size a)
theorem k0_idx289_inb : ∀ (v1661 : IVec S16 32) (v1703 : IVec S16 32) (k0_hw289 : k0_chk289 v1661 v1703), ∀ a x, ((![v1703, v1661] : Fin 2 → IVec S16 32) a x).toNat < S224x129.size a := fun v1661 v1703 k0_hw289 => k0_hw289
def k0_off291 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1705 : Index := Scalar.indexCast v1642
  let c128 : Index := 128#32
  ![v1705.toNat, 128]

def k0_chk290 (v1661 : IVec S16 32) (v1708 : IVec S16 32) : Prop :=
  (∀ a x, ((![v1708, v1661] : Fin 2 → IVec S16 32) a x).toNat < S224x129.size a)
theorem k0_idx290_inb : ∀ (v1661 : IVec S16 32) (v1708 : IVec S16 32) (k0_hw290 : k0_chk290 v1661 v1708), ∀ a x, ((![v1708, v1661] : Fin 2 → IVec S16 32) a x).toNat < S224x129.size a := fun v1661 v1708 k0_hw290 => k0_hw290
def k0_off292 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1710 : Index := Scalar.indexCast v1642
  let c144 : Index := 144#32
  ![v1710.toNat, 144]

def k0_chk291 (v1661 : IVec S16 32) (v1713 : IVec S16 32) : Prop :=
  (∀ a x, ((![v1713, v1661] : Fin 2 → IVec S16 32) a x).toNat < S224x129.size a)
theorem k0_idx291_inb : ∀ (v1661 : IVec S16 32) (v1713 : IVec S16 32) (k0_hw291 : k0_chk291 v1661 v1713), ∀ a x, ((![v1713, v1661] : Fin 2 → IVec S16 32) a x).toNat < S224x129.size a := fun v1661 v1713 k0_hw291 => k0_hw291
def k0_off293 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1715 : Index := Scalar.indexCast v1642
  let c160 : Index := 160#32
  ![v1715.toNat, 160]

def k0_chk292 (v1661 : IVec S16 32) (v1718 : IVec S16 32) : Prop :=
  (∀ a x, ((![v1718, v1661] : Fin 2 → IVec S16 32) a x).toNat < S224x129.size a)
theorem k0_idx292_inb : ∀ (v1661 : IVec S16 32) (v1718 : IVec S16 32) (k0_hw292 : k0_chk292 v1661 v1718), ∀ a x, ((![v1718, v1661] : Fin 2 → IVec S16 32) a x).toNat < S224x129.size a := fun v1661 v1718 k0_hw292 => k0_hw292
def k0_off294 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1720 : Index := Scalar.indexCast v1642
  let c176 : Index := 176#32
  ![v1720.toNat, 176]

def k0_chk293 (v1661 : IVec S16 32) (v1723 : IVec S16 32) : Prop :=
  (∀ a x, ((![v1723, v1661] : Fin 2 → IVec S16 32) a x).toNat < S224x129.size a)
theorem k0_idx293_inb : ∀ (v1661 : IVec S16 32) (v1723 : IVec S16 32) (k0_hw293 : k0_chk293 v1661 v1723), ∀ a x, ((![v1723, v1661] : Fin 2 → IVec S16 32) a x).toNat < S224x129.size a := fun v1661 v1723 k0_hw293 => k0_hw293
def k0_off295 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1725 : Index := Scalar.indexCast v1642
  let c192 : Index := 192#32
  ![v1725.toNat, 192]

def k0_chk294 (v1661 : IVec S16 32) (v1728 : IVec S16 32) : Prop :=
  (∀ a x, ((![v1728, v1661] : Fin 2 → IVec S16 32) a x).toNat < S224x129.size a)
theorem k0_idx294_inb : ∀ (v1661 : IVec S16 32) (v1728 : IVec S16 32) (k0_hw294 : k0_chk294 v1661 v1728), ∀ a x, ((![v1728, v1661] : Fin 2 → IVec S16 32) a x).toNat < S224x129.size a := fun v1661 v1728 k0_hw294 => k0_hw294
def k0_off296 (k0_t21 : Fin k0_t21_loop.trips) : Fin 2 → Nat :=
  let c0_i32_1155 : BitVec 32 := 0#32
  let c0_i32_1124 : BitVec 32 := 0#32
  let c1_i32_1126 : BitVec 32 := 1#32
  let arg12 : BitVec 32 := Scf.iv c0_i32_1124 c1_i32_1126 k0_t21
  let c1_i32_1154 : BitVec 32 := 1#32
  let v1641 : BitVec 32 := Scalar.muli arg12 c1_i32_1154
  let v1642 : BitVec 32 := Scalar.addi c0_i32_1155 v1641
  let v1730 : Index := Scalar.indexCast v1642
  let c208 : Index := 208#32
  ![v1730.toNat, 208]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x128x224x224 : Shape := ⟨4, ![3, 128, 224, 224]⟩
abbrev S_ : Shape := ⟨0, ![]⟩
abbrev S31 : Shape := ⟨1, ![31]⟩
abbrev S1 : Shape := ⟨1, ![1]⟩
abbrev S32 : Shape := ⟨1, ![32]⟩
abbrev S32x1 : Shape := ⟨2, ![32, 1]⟩
abbrev S1x1 : Shape := ⟨2, ![1, 1]⟩
abbrev S3x32x224x224 : Shape := ⟨4, ![3, 32, 224, 224]⟩

abbrev nBuf : Space → Nat
  | .hbm => 56
  | .vmem => 0
  | .smem => 0
  | _ => 0

abbrev bufTy : (tb : Table) → Fin (tcTables nBuf tb) → BufTy
  | .hbm, ⟨0, _⟩ => ⟨S3x128x224x224, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S31, .f32⟩
  | .hbm, ⟨9, _⟩ => ⟨S_, .f32⟩
  | .hbm, ⟨10, _⟩ => ⟨S31, .f32⟩
  | .hbm, ⟨11, _⟩ => ⟨S31, .f32⟩
  | .hbm, ⟨12, _⟩ => ⟨S1, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S1, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1, .i32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S1x1, .i32⟩
  | .hbm, ⟨46, _⟩ => ⟨S32x1, .i32⟩
  | .hbm, ⟨47, _⟩ => ⟨S32x1, .i1⟩
  | .hbm, ⟨48, _⟩ => ⟨S32x1, .i1⟩
  | .hbm, ⟨49, _⟩ => ⟨S_, .i1⟩
  | .hbm, ⟨50, _⟩ => ⟨S32, .i1⟩
  | .hbm, ⟨51, _⟩ => ⟨S3x32x224x224, .f32⟩
  | .hbm, ⟨52, _⟩ => ⟨S3x32x224x224, .i1⟩
  | .hbm, ⟨53, _⟩ => ⟨S_, .f32⟩
  | .hbm, ⟨54, _⟩ => ⟨S3x32x224x224, .f32⟩
  | .hbm, ⟨55, _⟩ => ⟨S3x32x224x224, .f32⟩
  | _, _ => ⟨S3x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v1 : Ref sig .tc := ⟨.hbm, 31, rfl⟩
abbrev main_v2 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v3 : Ref sig .tc := ⟨.hbm, 55, rfl⟩

abbrev nD : Nat := 1
abbrev τ : Topo := Topo.v7x

variable {F : FTy → Type} [FloatOps F]
-- ==== Proof.Fragments.lean ====
/-
  The kernel function of one vector subcore, restated as a list of short program fragments.

  A tile treats 21 blocks one after the other. For block `kk` there are five fragments: start the copy of the block's
  slice of the transposed input into an input buffer, wait for that copy, gather the sampled columns into an output
  buffer, start the copy of the output buffer into the block's slice of the result, wait for that copy. Even blocks use
  the first buffer of each pair and the first semaphore, odd blocks the second.
-/
module

public import proofs.«01_k».proof.Defs
public import proofs.«01_k».proof.Proof.Gen.KernelIdeal

@[expose] public section

set_option synthInstance.maxSize 4096

noncomputable section

namespace Cert.Proof.Sample

open Cert.KernelIdeal Cert.KernelIdeal.Gen
open Idealize.ShloMosaic Idealize.SL.Sem

variable {F : FTy → Type} [FloatOps F]

/-! ## Chains of fragments -/

section Chain

universe u

variable {E : Type → Type u} {α β : Type}

/-- The fragments of `l` in order, then `K`. -/
def chain (l : List (Prog E PUnit)) (K : Prog E α) : Prog E α := l.foldr (fun p k => p >>= fun _ => k) K

/-- A list in two parts: the first, then the second. -/
theorem chain_append (l l' : List (Prog E PUnit)) (K : Prog E α) : chain (l ++ l') K = chain l (chain l' K) :=
  List.foldr_append

/-- Binding a continuation after a chain ending in a value is the chain ending in the continuation at that value. -/
theorem chain_bind (l : List (Prog E PUnit)) (r : α) (f : α → Prog E β) : (chain l (pure r) >>= f) = chain l (f r) := by
  induction l with
  | nil => rfl
  | cons p l ih =>
    show ((p >>= fun _ => chain l (pure r)) >>= f) = (p >>= fun _ => chain l (f r))
    rw [bind_assoc, ih]

/-- One window of a printed function, running the fragments `l`, and what follows it, running `l'`. -/
theorem window {l' : List (Prog E PUnit)} {p : Prog E α} {r : α} {f : α → Prog E β} {K : Prog E β} (l : List (Prog E PUnit))
    (hp : p = chain l (pure r)) (hf : f r = chain l' K) : (p >>= f) = chain (l ++ l') K := by
  rw [hp, chain_bind, hf, ← chain_append]

end Chain

/-! ## The buffers, semaphores and slices -/

/-- The programs of the vector subcore at grid point `i`. -/
abbrev TileProg (F : FTy → Type) (i : grid0.Coords) : Type → Type 1 :=
  Prog (TpuEff nD τ sig (Elt F) Λ₀ (.scVector ((i 0).castLE hcore0) ((i 1).castLE hsub0)))

/-- The transposed input and the result, whole. -/
abbrev xV : Memref sig .scVector .hbm S3x224x224x128 .f32 := Memref.whole main_v0_scv
/-- The result, whole. -/
abbrev oV : Memref sig .scVector .hbm S3x32x224x224 .f32 := Memref.whole main_v1_scv

/-- The two input buffers and the two output buffers. -/
def inB : Fin 2 → Memref sig .scVector .vmem S224x129 .f32
  | 0 => Memref.whole cc0_scratch0
  | 1 => Memref.whole cc0_scratch1
/-- The two output buffers. -/
def outB : Fin 2 → Memref sig .scVector .vmem S32x224 .f32
  | 0 => Memref.whole cc0_scratch2
  | 1 => Memref.whole cc0_scratch3

/-- The semaphores of the copies in and of the copies out. -/
def inS : Fin 2 → DmaSem sig
  | 0 => cc0_scratch4.sem
  | 1 => cc0_scratch5.sem
/-- The semaphores of the copies out. -/
def outS : Fin 2 → DmaSem sig
  | 0 => cc0_scratch6.sem
  | 1 => cc0_scratch7.sem

/-- An output buffer is a whole buffer. -/
theorem outB_whole : ∀ p, (outB p).IsWhole
  | 0 => Memref.isWhole_whole _
  | 1 => Memref.isWhole_whole _

/-- The parity of a block: which buffers and semaphores it uses. -/
abbrev par (kk : Fin 21) : Fin 2 := ⟨kk.val % 2, Nat.mod_lt _ (by decide)⟩

/-- Block `kk`'s slice of the transposed input: one channel, one row, all columns and samples. -/
abbrev xSl (i : grid0.Coords) (kk : Fin 21) : Memref sig .scVector .hbm S224x128 .f32 :=
  (xV.slice (Rect.unit (s := S3x224x224x128) (k0_off1 i (BitVec.ofNat 32 kk.val)) S1x1x224x128.size (k0_off1_inb i kk)) (fun _ => rfl)).squeeze
    S224x128 squeezes_S1x1x224x128_S224x128

/-- Block `kk`'s slice of the result: one channel, all kept samples, one row, all columns. -/
abbrev oSl (i : grid0.Coords) (kk : Fin 21) : Memref sig .scVector .hbm S32x224 .f32 :=
  (oV.slice (Rect.unit (s := S3x32x224x224) (k0_off16 i (BitVec.ofNat 32 kk.val)) S1x32x1x224.size (k0_off16_inb i kk)) (fun _ => rfl)).squeeze
    S32x224 squeezes_S1x32x1x224_S32x224

/-- The first 128 columns of an input buffer. -/
abbrev inW (p : Fin 2) : Memref sig .scVector .vmem S224x128 .f32 :=
  (inB p).slice (Rect.unit (s := S224x129) ![0, 0] S224x128.size inb_S224x129_S224x128_0_0) (fun _ => rfl)

/-! ## The fragments of the copies -/

/-- Start the copy of block `kk`'s input slice. -/
def startIn (i : grid0.Coords) (kk : Fin 21) : TileProg F i PUnit :=
  Prog.lift (.enqueueDma (xSl i kk) (.here (inW (par kk))) (.dma (inS (par kk))) ((View.wordExact_bits rfl).reshape _ _) (View.wordExact_bits rfl) ⟨Or.inl rfl, trivial⟩)

/-- Wait for it. -/
def waitIn (i : grid0.Coords) (kk : Fin 21) : TileProg F i PUnit :=
  Prog.lift (.waitDma2 (inS (par kk)) (xSl i kk) (inW (par kk)) ((View.wordExact_bits rfl).reshape _ _) (View.wordExact_bits rfl))

/-- Start the copy of the gathered block to its slice of the result. -/
def startOut (i : grid0.Coords) (kk : Fin 21) : TileProg F i PUnit :=
  Prog.lift (.enqueueDma (outB (par kk)) (.here (oSl i kk)) (.dma (outS (par kk))) (outB_whole _).wordExact ((View.wordExact_bits rfl).reshape _ _) ⟨Or.inl rfl, trivial⟩)

/-- Wait for it. -/
def waitOut (i : grid0.Coords) (kk : Fin 21) : TileProg F i PUnit :=
  Prog.lift (.waitDma2 (outS (par kk)) (outB (par kk)) (oSl i kk) (outB_whole _).wordExact ((View.wordExact_bits rfl).reshape _ _))

/-! ## The gather of one block -/

/-- The trips of the gather's loop. -/
abbrev Trip : Type := Fin k0_t1_loop.trips

/-- The sample trip `k` gathers, as the kernel computes it: the floor of `127 k / 31`. -/
def sampleWord (k : Trip) : BitVec 32 :=
  let v1643 : BitVec 32 := Scalar.muli (Scalar.addi 0#32 (Scalar.muli (Scf.iv 0#32 1#32 k) 1#32)) 127#32
  let v1644 : BitVec 32 := Scalar.divsi v1643 31#32
  Scalar.select
    (Scalar.andi
      (Scalar.cmpi .ne (Scalar.subi (Scalar.extui (Scalar.cmpi .sgt v1643 0#32)) (Scalar.extui (Scalar.cmpi .slt v1643 0#32)))
        (Scalar.subi (Scalar.extui (Scalar.cmpi .sgt 31#32 0#32)) (Scalar.extui (Scalar.cmpi .slt 31#32 0#32))))
      (Scalar.cmpi .ne (Scalar.remsi v1643 31#32) 0#32))
    (Scalar.subi v1644 1#32) v1644

/-- The row of the output buffer trip `k` writes. -/
def rowWord (k : Trip) : ℕ := (Scalar.indexCast (Scalar.addi 0#32 (Scalar.muli (Scf.iv 0#32 1#32 k) 1#32)) : Index).toNat

/-- The sixteen columns from `w` on, and the sample, as index vectors. -/
def colVec (w : ℕ) : IVec S16 32 := addi (iota .scVector S16 32 [0] iota_S16_d0_w32_scVector) (broadcast S16 (BitVec.ofNat 32 w))
/-- The sample, sixteen times. -/
def sampleVec (k : Trip) : IVec S16 32 := broadcast S16 (sampleWord k)

/-- Trip `k` writes row `k`. -/
theorem rowWord_eq : ∀ k : Trip, rowWord k = k.val := by decide

/-- A group of sixteen columns lies inside the output buffer. -/
theorem group_inb (k : Trip) (g : Fin 14) : ∀ a, (![rowWord k, 16 * g.val] : Fin 2 → ℕ) a + S1x16.size a ≤ S32x224.size a := by
  have hk := rowWord_eq k
  have h1 := k.isLt
  have h2 : k0_t1_loop.trips = 32 := by decide
  intro a; fin_cases a
  · show rowWord k + 1 ≤ 32; omega
  · show 16 * g.val + 16 ≤ 224; omega

/-- The place of group `g` of trip `k` in an output buffer: row `k`, columns `16 g` to `16 g + 15`. -/
abbrev grpRect (k : Trip) (g : Fin 14) : Rect S32x224 := Rect.unit (s := S32x224) ![rowWord k, 16 * g.val] S1x16.size (group_inb k g)

/-- One group of sixteen columns: gather them from the input buffer at trip `k`'s sample, store them into the output
    buffer's row `k`. -/
def group (i : grid0.Coords) (p : Fin 2) (k : Trip) (g : Fin 14) : TileProg F i PUnit := do
  have hw : k0_chk1 (sampleVec k) (colVec (16 * g.val)) :=
    (← Prog.lift (TpuEff.assume (k0_chk1 (sampleVec k) (colVec (16 * g.val))) (k0_chk1.dec (sampleVec k) (colVec (16 * g.val))))).down
  let v : Vec F S16 .f32 ← SparseCore.vectorLoadIdx (inB p) ![colVec (16 * g.val), sampleVec k] (k0_idx1_inb (sampleVec k) (colVec (16 * g.val)) hw) (View.loads_vmem h_S224x129)
  let _ : Vec F S1x16 .f32 ← Prog.lift (.load (outB p) (grpRect k g).toLoadRect (View.loadsAt_vmem h_S1x16))
  Prog.lift (.store (outB p) (grpRect k g) (shapeCast S1x16 v shapeCasts_S16_S1x16) Finset.univ (View.stores_vmem_bits_univ h_S1x16 rfl) (.inl rfl))

/-- One trip: the fourteen groups. -/
def trip (i : grid0.Coords) (p : Fin 2) : Trip → Unit → TileProg F i Unit :=
  fun k _ => chain ((List.finRange 14).map (group i p k)) (pure ())

/-- The gather of a block: the 32 trips. -/
def gather (i : grid0.Coords) (kk : Fin 21) : TileProg F i PUnit := Scf.Loop.for k0_t1_loop k0_t1_ok ⟨⟩ (trip i (par kk))

/-! ## The whole of a tile's work -/

/-- Block `kk`: start the next block's copy in, wait for this block's, wait for the copy out of two blocks before (which
    leaves from the same output buffer), gather, start the copy out. -/
def block (i : grid0.Coords) (kk : Fin 21) : List (TileProg F i PUnit) :=
  (if h : kk.val + 1 < 21 then [startIn i ⟨kk.val + 1, h⟩] else []) ++ waitIn i kk ::
    ((if h : 2 ≤ kk.val then [waitOut i ⟨kk.val - 2, by omega⟩] else []) ++ [gather i kk, startOut i kk])

/-- The first copy in, the blocks, and the waits for the last two copies out. -/
def script (i : grid0.Coords) : List (TileProg F i PUnit) :=
  startIn i 0 :: (((List.finRange 21).map (block i)).flatten ++ [waitOut i 20, waitOut i 19])

end Cert.Proof.Sample

end
-- ==== Proof.Setup.lean ====
/-
  The launch as the SparseCore library sees it, and triples over chains of fragments.

  The first half names the program's configuration, the ghost state (the handshakes' rounds beside the transfers'
  counters) and the thread of each tile. The second half is a small logic of triples `Spec l P R`: from `P` the
  fragments of `l`, run in order, end with `R`.
-/
module

public import proofs.«01_k».proof.Proof.Fragments
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Sample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the launched program. -/
abbrev ΛP : Labels := Pipeline.Sig Λ₀ (Fin 0) fun p => (pcfgs (F := F) p).Adm
/-- The SparseCore configuration of the program. -/
abbrev K : SparseCore.Cfg τ sig (ΛP (F := F)) 1 := sc (F := F)
/-- The program's definitions, the kernel's lifted into the launch. -/
abbrev D [FloatOps F] : Defs nD τ sig (Elt F) (ΛP (F := F)) := Pipeline.defs pcfgs defs₀
/-- No loop needs a variant. -/
abbrev 𝒱₀ : Variants := Variants.none
/-- The same for the launched program. -/
abbrev 𝒱 : Variants := 𝒱₀.lift
/-- The variant the tiles start at. -/
abbrev v₀ : 𝒱.V := Sum.inl none

/-- The handshakes' semaphores are distinct and outlive the kernels' scopes, and no SparseCore buffer is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The whole ghost state: the rounds, and the counters of copies in flight. -/
abbrev UU : Type := UH × Counters

local notation "𝕄" => MT nD τ sig (HIx 1) (Elt F) ℕ UU ℕ

/-- The handshakes' rounds are the left factor; the transfers' counters, in the right one, are found by instance. -/
abbrev EH : Emb UH (MT nD τ sig (HIx 1) (Elt F) ℕ UU ℕ) := embL
/-- Where the copies' counters lie. -/
abbrev EC : UEmb Counters (MT nD τ sig (HIx 1) (Elt F) ℕ UU ℕ) := countersEmb

/-! ## Threads and arrays -/

/-- The SparseCore of grid point `i`. -/
abbrev cV (i : grid0.Coords) : Fin τ.nSC := (i 0).castLE hcore0
/-- The subcore of grid point `i`. -/
abbrev jV (i : grid0.Coords) : Fin τ.nSub := (i 1).castLE hsub0
/-- The thread of the tile at grid point `i` of device `d`. -/
abbrev thr (d : Dev nD) (i : grid0.Coords) : Thread nD τ := V d (cV i) (jV i)

/-- The input, the transposed input and the result on device `d`. -/
abbrev aLoc (d : Dev nD) : Loc nD τ sig := (SparseCore.T d).loc main_arg0
/-- The transposed input on device `d`. -/
abbrev xLoc (d : Dev nD) : Loc nD τ sig := (SparseCore.T d).loc main_v0
/-- The result on device `d`. -/
abbrev oLoc (d : Dev nD) : Loc nD τ sig := (SparseCore.T d).loc main_v1

/-! ## Triples over chains of fragments -/

section Spec

variable [FloatOps F] (d : Dev nD) (i : grid0.Coords)

/-- The weakest precondition of a tile's program. -/
abbrev WP {α : Type} (p : TileProg F i α) (Q : α → sProp 𝕄) : sProp 𝕄 :=
  wp frame (wpE (defs₀ (F := F)) 𝒱₀ (thr d i) none) Set.univ p Q

/-- From `P` the fragments of `l`, in order, end with `R`. -/
def Spec (l : List (TileProg F i PUnit)) (P R : sProp 𝕄) : Prop := P ⊢ WP d i (chain l (pure PUnit.unit)) fun _ => R

variable {d i}

/-- A triple lets a program go on after its fragments. -/
theorem Spec.then {l : List (TileProg F i PUnit)} {P R : sProp 𝕄} (h : Spec d i l P R) {α : Type} {k : TileProg F i α} {Q : α → sProp 𝕄}
    (hk : R ⊢ WP d i k Q) : P ⊢ WP d i (chain l k) Q := by
  have e : chain l k = (chain l (pure PUnit.unit) >>= fun _ => k) := (chain_bind l PUnit.unit fun _ => k).symm
  rw [e]
  show P ⊢ wp frame (wpE (defs₀ (F := F)) 𝒱₀ (thr d i) none) Set.univ _ Q
  rw [wp_bind]
  exact h.trans (wp_mono _ _ _ fun _ => hk)

/-- No fragment takes `P` to what `P` entails. -/
theorem Spec.nil {P R : sProp 𝕄} (h : P ⊢ R) : Spec (F := F) d i [] P R := by
  refine h.trans ?_
  show R ⊢ wp frame (wpE (defs₀ (F := F)) 𝒱₀ (thr d i) none) Set.univ (.ret PUnit.unit) fun _ => R
  rw [wp_ret]
  iintro H
  imodintro
  iexact H

/-- Two lists one after the other. -/
theorem Spec.append {l l' : List (TileProg F i PUnit)} {P R S : sProp 𝕄} (h : Spec d i l P R) (h' : Spec d i l' R S) : Spec d i (l ++ l') P S := by
  unfold Spec
  rw [chain_append]
  exact h.then h'

/-- A list of one fragment. -/
theorem Spec.one {p : TileProg F i PUnit} {P R : sProp 𝕄} (h : P ⊢ WP d i p fun _ => R) : Spec d i [p] P R := by
  show P ⊢ WP d i (p >>= fun _ => pure PUnit.unit) _
  rw [bind_pure]
  exact h

/-- One fragment, then a list. -/
theorem Spec.cons {p : TileProg F i PUnit} {l : List (TileProg F i PUnit)} {P R S : sProp 𝕄} (h : P ⊢ WP d i p fun _ => R) (h' : Spec d i l R S) :
    Spec d i (p :: l) P S := (Spec.one h).append h'

/-- A stronger start and a weaker end. -/
theorem Spec.conseq {l : List (TileProg F i PUnit)} {P P' R R' : sProp 𝕄} (h : Spec d i l P R) (hP : P' ⊢ P) (hR : R ⊢ R') : Spec d i l P' R' :=
  hP.trans (h.trans (wp_mono _ _ _ fun _ => hR))

/-- What the fragments do not touch stays. -/
theorem Spec.frame {l : List (TileProg F i PUnit)} {P R : sProp 𝕄} (h : Spec d i l P R) (A : sProp 𝕄) : Spec d i l iprop(P ∗ A) iprop(R ∗ A) :=
  (sep_mono_left h).trans (wp_frame_r _ _ _)

/-- Lists run one after the other, the `k`-th taking `I k` to `I (k + 1)`. -/
theorem Spec.flatten : ∀ {n : ℕ} {l : Fin n → List (TileProg F i PUnit)} {I : ℕ → sProp 𝕄}, (∀ k, Spec d i (l k) (I k.val) (I (k.val + 1))) →
    Spec d i (((List.finRange n).map l).flatten) (I 0) (I n)
  | 0, _, _, _ => Spec.nil .rfl
  | n + 1, l, I, h => by
    rw [List.finRange_succ, List.map_cons, List.map_map, List.flatten_cons]
    exact (h 0).append (Spec.flatten (I := fun k => I (k + 1)) fun k => h k.succ)

/-- Fragments run one after the other, the `k`-th taking `I k` to `I (k + 1)`. -/
theorem Spec.each {n : ℕ} {p : Fin n → TileProg F i PUnit} {I : ℕ → sProp 𝕄} (h : ∀ k, I k.val ⊢ WP d i (p k) fun _ => I (k.val + 1)) :
    Spec d i ((List.finRange n).map p) (I 0) (I n) := by
  have e : (List.finRange n).map p = ((List.finRange n).map fun k => [p k]).flatten := by
    induction List.finRange n with
    | nil => rfl
    | cons k l ih => rw [List.map_cons, List.map_cons, List.flatten_cons, ih]; rfl
  rw [e]
  exact Spec.flatten fun k => Spec.one (h k)

/-- A triple inside a proof: give what it asks, go on with what it leaves. -/
theorem Spec.go {l l' : List (TileProg F i PUnit)} {P R : sProp 𝕄} (h : Spec d i l P R) {α : Type} {k : TileProg F i α} {Q : α → sProp 𝕄} :
    P ⊢ iprop((R -∗ WP d i (chain l' k) Q) -∗ WP d i (chain (l ++ l') k) Q) := by
  refine BI.wand_intro ?_
  rw [chain_append]
  refine ((Spec.frame h _).then ?_)
  iintro ⟨HR, Hk⟩
  iapply Hk
  iexact HR

/-- The same for one fragment. -/
theorem Spec.goOne {p : TileProg F i PUnit} {l' : List (TileProg F i PUnit)} {P R : sProp 𝕄} (h : P ⊢ WP d i p fun _ => R) {α : Type}
    {k : TileProg F i α} {Q : α → sProp 𝕄} : P ⊢ iprop((R -∗ WP d i (chain l' k) Q) -∗ WP d i (chain (p :: l') k) Q) :=
  Spec.go (Spec.one h)

end Spec

end Cert.Proof.Sample

end
-- ==== Proof.Gather.lean ====
/-
  The gather of one block: 32 trips of fourteen groups fill an output buffer with the sampled columns of an input buffer.
-/
module

public import proofs.«01_k».proof.Proof.Setup

@[expose] public section

set_option synthInstance.maxSize 4096

noncomputable section

namespace Cert.Proof.Sample

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Words -/

/-- The sample an output row keeps. -/
theorem sampleWord_toNat : ∀ k : Trip, (sampleWord k).toNat = k.val * 127 / 31 := by decide

/-- The loop of a block has 32 trips. -/
theorem trips_eq : k0_t1_loop.trips = 32 := by decide

/-- A trip's number is below 32. -/
theorem trip_lt (k : Trip) : k.val < 32 := lt_of_lt_of_eq k.isLt trips_eq

/-- A kept sample is one of the 128. -/
theorem kept_lt {n : ℕ} (h : n < 32) : n * 127 / 31 < 128 := by omega

/-- Lane `x` of the column vector from `16 g` on is column `16 g + x`. -/
theorem colVec_toNat (g : Fin 14) (x : S16.Idx) : (colVec (16 * g.val) x).toNat = 16 * g.val + (x 0).val := by
  have hx : (x 0).val < 16 := (x 0).isLt
  have hg := g.isLt
  show (BitVec.ofNat 32 ([(0 : Fin 1)].foldl (fun n a => n * S16.size a + (x a).val) 0) + BitVec.ofNat 32 (16 * g.val)).toNat = _
  simp only [List.foldl_cons, List.foldl_nil, Nat.zero_mul, Nat.zero_add]
  rw [BitVec.toNat_add, BitVec.toNat_ofNat, BitVec.toNat_ofNat]
  omega

/-- Each lane of the sample vector is the sample. -/
theorem sampleVec_toNat (k : Trip) (x : S16.Idx) : (sampleVec k x).toNat = k.val * 127 / 31 := sampleWord_toNat k

/-- Every index a group gathers at is inside the input buffer. -/
theorem chk_holds (k : Trip) (g : Fin 14) : k0_chk1 (sampleVec k) (colVec (16 * g.val)) := by
  unfold k0_chk1
  intro a x
  have hk := kept_lt (trip_lt k)
  have hg := g.isLt
  have hx : (x 0).val < 16 := (x 0).isLt
  match a with
  | 0 => show (colVec (16 * g.val) x).toNat < 224; rw [colVec_toNat]; omega
  | 1 => show (sampleVec k x).toNat < 129; rw [sampleVec_toNat]; omega

/-! ## What the groups done so far have left -/

/-- Where the gather of a block finds entry `y` of the output buffer in the input buffer: row `y 1`, the sample row `y 0` keeps. -/
def srcIx (y : S32x224.Idx) : S224x129.Idx :=
  Shape.pair (d := ![224, 129]) (y 1) ⟨(y 0).val * 127 / 31, by have h : (y 0).val < 32 := (y 0).isLt; have := kept_lt h; show _ < 129; omega⟩

/-- The first `n` groups are in the output buffer. -/
def Gathered (rf : S224x129.Idx → F .f32) (rg : S32x224.Idx → F .f32) (n : ℕ) : Prop :=
  ∀ y : S32x224.Idx, 14 * (y 0).val + (y 1).val / 16 < n → rg y = rf (srcIx y)

/-- Lane `z` of a group's place in the output buffer, as an index of the place. -/
def lane (z : S16.Idx) : S1x16.Idx := Fin.cons (⟨0, Nat.one_pos⟩ : Fin 1) z

/-- Lane `z` of group `g` of trip `k` lies in row `k`, -/
theorem lane_emb_zero (k : Trip) (g : Fin 14) (z : S16.Idx) : ((grpRect k g).emb (lane z) 0).val = k.val := by
  rw [Rect.emb_apply]
  show rowWord k + 1 * 0 = k.val
  rw [rowWord_eq]; rfl

/-- and in column `16 g + z`. -/
theorem lane_emb_one (k : Trip) (g : Fin 14) (z : S16.Idx) : ((grpRect k g).emb (lane z) 1).val = 16 * g.val + (z 0).val := by
  rw [Rect.emb_apply]
  show 16 * g.val + 1 * (z 0).val = _
  omega

/-- An index with the group's row and columns is under a lane of the group. -/
theorem exists_lane (k : Trip) (g : Fin 14) (y : S32x224.Idx) (h0 : (y 0).val = k.val) (h1 : (y 1).val / 16 = g.val) :
    ∃ z : S16.Idx, (grpRect k g).emb (lane z) = y := by
  refine ⟨Shape.ofLane (d := ![16]) ⟨(y 1).val - 16 * g.val, by show (y 1).val - 16 * g.val < 16; omega⟩, funext fun a => Fin.ext ?_⟩
  match a with
  | 0 => exact (lane_emb_zero k g _).trans h0.symm
  | 1 => refine (lane_emb_one k g _).trans ?_; show 16 * g.val + ((y 1).val - 16 * g.val) = (y 1).val; omega

/-- One more group, that changes nothing outside its own place. -/
theorem Gathered.step {rf : S224x129.Idx → F .f32} {rg rg' : S32x224.Idx → F .f32} {k : Trip} {g : Fin 14} (h : Gathered rf rg (14 * k.val + g.val))
    (hin : ∀ z, rg' ((grpRect k g).emb (lane z)) = rf (srcIx ((grpRect k g).emb (lane z))))
    (hout : ∀ y, y ∉ (Finset.univ : Finset S1x16.Idx).map (grpRect k g).emb → rg' y = rg y) : Gathered rf rg' (14 * k.val + g.val + 1) := by
  intro y hy
  by_cases hm : (y 0).val = k.val ∧ (y 1).val / 16 = g.val
  · obtain ⟨z, rfl⟩ := exists_lane k g y hm.1 hm.2
    exact hin z
  · have hy1 : (y 1).val < 224 := (y 1).isLt
    have hg := g.isLt
    rw [hout y fun hmem => ?_]
    · exact h y (by omega)
    · obtain ⟨x, -, rfl⟩ := Finset.mem_map.mp hmem
      apply hm
      have hx : (x 1).val < 16 := (x 1).isLt
      have hx0 : (x 0).val = 0 := Nat.lt_one_iff.mp (x 0).isLt
      have e0 : ((grpRect k g).emb x 0).val = rowWord k + 1 * (x 0).val := Rect.emb_apply _ _ _
      have e1 : ((grpRect k g).emb x 1).val = 16 * g.val + 1 * (x 1).val := Rect.emb_apply _ _ _
      have hr := rowWord_eq k
      omega

/-- What a group gathers, at a lane of its place. -/
theorem gathered_lane (rf : S224x129.Idx → F .f32) (k : Trip) (g : Fin 14) (h : ∀ a x, ((![colVec (16 * g.val), sampleVec k] : Fin 2 → IVec S16 32) a x).toNat < S224x129.size a)
    (z : S16.Idx) :
    shapeCast S1x16 (loadIdx (F := F) (e := .f32) rf ![colVec (16 * g.val), sampleVec k] h) shapeCasts_S16_S1x16 (lane z)
      = rf (srcIx ((grpRect k g).emb (lane z))) := by
  have e : Shape.reshapeEquiv shapeCasts_S16_S1x16 (lane z) = z := by
    rw [show lane z = Shape.reshapeEquiv (s := S1x16) (s' := S16) shapeCasts_S16_S1x16.symm z from (Shape.reshapeEquiv_cons_one _ z).symm,
      Shape.reshapeEquiv_reshapeEquiv, Shape.reshapeEquiv_self]
  show rf (idxAt _ h (Shape.reshapeEquiv _ (lane z))) = _
  rw [e]
  congr 1
  funext a
  apply Fin.ext
  match a with
  | 0 => show (colVec (16 * g.val) z).toNat = ((grpRect k g).emb (lane z) 1).val; rw [colVec_toNat, lane_emb_one]
  | 1 => show (sampleVec k z).toNat = ((grpRect k g).emb (lane z) 0).val * 127 / 31; rw [sampleVec_toNat, lane_emb_zero]

/-! ## The programs -/

section Run

variable [FloatOps F] (d : Dev nD) (i : grid0.Coords)

/-- The buffers of parity `p` at the tile, held whole at given contents. -/
abbrev inPts (p : Fin 2) (f : Buf (Elt F) ((inB p).view.loc (thr d i))) : sProp 𝕄 := (inB p).view.loc (thr d i) ↦{fullShare} f
/-- The output buffer of parity `p` at the tile, held whole at given contents. -/
abbrev outPts (p : Fin 2) (g : Buf (Elt F) ((outB p).view.loc (thr d i))) : sProp 𝕄 := (outB p).view.loc (thr d i) ↦{fullShare} g

/-- The input buffer's entries. -/
abbrev inRd (p : Fin 2) (f : Buf (Elt F) ((inB p).view.loc (thr d i))) : S224x129.Idx → F .f32 := (inB p).view.read (Elt F) f
/-- The output buffer's entries. -/
abbrev outRd (p : Fin 2) (g : Buf (Elt F) ((outB p).view.loc (thr d i))) : S32x224.Idx → F .f32 := (outB p).view.read (Elt F) g

/-- The output buffer after the first `n` groups, the input buffer at `f`. -/
def gatherInv (p : Fin 2) (f : Buf (Elt F) ((inB p).view.loc (thr d i))) (n : ℕ) : sProp 𝕄 :=
  iprop(inPts d i p f ∗ ∃ g, ⌜Gathered (inRd d i p f) (outRd d i p g) n⌝ ∗ outPts d i p g)

/-- One group. -/
theorem group_run (p : Fin 2) (f : Buf (Elt F) ((inB p).view.loc (thr d i))) (k : Trip) (g : Fin 14) :
    gatherInv d i p f (14 * k.val + g.val) ⊢ WP d i (group i p k g) fun _ => gatherInv d i p f (14 * k.val + g.val + 1) := by
  have e : group (F := F) i p k g = .op (.assume (k0_chk1 (sampleVec k) (colVec (16 * g.val))) (k0_chk1.dec (sampleVec k) (colVec (16 * g.val)))) fun hw =>
      SparseCore.vectorLoadIdx (inB p) ![colVec (16 * g.val), sampleVec k] (k0_idx1_inb (sampleVec k) (colVec (16 * g.val)) hw.down) (View.loads_vmem h_S224x129) >>= fun v =>
        .op (.load (outB p) (grpRect k g).toLoadRect (View.loadsAt_vmem h_S1x16)) fun _ =>
          .op (.store (outB p) (grpRect k g) (shapeCast S1x16 v shapeCasts_S16_S1x16) Finset.univ (View.stores_vmem_bits_univ h_S1x16 rfl) (.inl rfl)) .ret := rfl
  rw [e]
  show _ ⊢ wp frame (wpE (defs₀ (F := F)) 𝒱₀ (thr d i) none) Set.univ _ _
  rw [wp_assume_of 𝒱₀ (thr d i) none Set.univ (chk_holds k g)]
  unfold gatherInv
  iintro ⟨Hf, %o, %ho, Ho⟩
  iapply (SparseCore.wp_vectorLoadIdx 𝒱₀ (thr d i) none Set.univ (base := inB p) (Finset.subset_univ _)) $$ Hf
  iintro Hf
  iapply (wp_load 𝒱₀ (thr d i) none Set.univ (m := outB p) (r := (grpRect k g).toLoadRect) (S := Finset.univ) (f := o) (Finset.subset_univ _)) $$ Ho
  iintro Ho
  iapply (wp_store 𝒱₀ (thr d i) none Set.univ (m := outB p) (r := grpRect k g) (S := Finset.univ) (f := o) (Finset.subset_univ _)) $$ Ho
  iintro Ho
  rw [wp_ret]
  imodintro
  isplitl [Hf]; · iexact Hf
  iexists _
  isplitr
  rotate_left
  · iexact Ho
  · ipureintro
    refine ho.step (fun z => ?_) fun y hy => ?_
    · refine (View.read_slice_write_emb (v := (outB p).view) (grpRect k g) o _ (Finset.mem_univ (lane z))).trans ?_
      refine (gathered_lane _ k g (k0_idx1_inb (sampleVec k) (colVec (16 * g.val)) (chk_holds k g)) z).trans ?_
      have hw (x : S224x129.Idx) : (Rect.whole S224x129).emb x = x := funext fun a => Fin.ext (by
        rw [Rect.emb_apply]; show 0 + 1 * (x a).val = (x a).val; omega)
      show (inB p).view.read (Elt F) f ((Rect.whole S224x129).emb _) = _
      rw [hw]
    · exact View.read_slice_write_of_not_mem (v := (outB p).view) (grpRect k g) o _ _ hy

/-- One trip: fourteen groups. -/
theorem trip_run (p : Fin 2) (f : Buf (Elt F) ((inB p).view.loc (thr d i))) (k : Trip) (u : Unit) :
    gatherInv d i p f (14 * k.val) ⊢ WP d i (trip i p k u) fun _ => gatherInv d i p f (14 * (k.val + 1)) :=
  Spec.each (I := fun n => gatherInv d i p f (14 * k.val + n)) fun g => group_run d i p f k g

/-- The gather of a block: from the input buffer at `f`, the output buffer reads at every entry the input buffer at its source. -/
theorem gather_run (kk : Fin 21) (f : Buf (Elt F) ((inB (par kk)).view.loc (thr d i))) :
    iprop(inPts d i (par kk) f ∗ ∃ g, outPts d i (par kk) g) ⊢ WP d i (gather i kk) fun _ =>
      iprop(inPts d i (par kk) f ∗ ∃ g, ⌜∀ y, outRd d i (par kk) g y = inRd d i (par kk) f (srcIx y)⌝ ∗ outPts d i (par kk) g) := by
  refine BIBase.Entails.trans ?_ (Scf.wp_for _ _ _ _ _ _ k0_t1_ok ⟨⟩ (trip i (par kk)) (fun n _ => gatherInv d i (par kk) f (14 * n)) fun k u => trip_run d i (par kk) f k u)
  unfold gatherInv
  iintro ⟨Hf, %g, Hg⟩
  isplitl [Hf Hg]
  · isplitl [Hf]; · iexact Hf
    iexists g
    isplitr
    · ipureintro; intro y hy; exact absurd hy (by omega)
    · iexact Hg
  · iintro %u ⟨Hf, %g', %hg', Hg⟩
    isplitl [Hf]; · iexact Hf
    iexists g'
    isplitr
    · ipureintro
      intro y
      have h0 : (y 0).val < 32 := (y 0).isLt
      have h1 : (y 1).val < 224 := (y 1).isLt
      refine hg' y ?_
      have e : Scf.trips k0_t1_loop.lb k0_t1_loop.ub k0_t1_loop.st = 32 := trips_eq
      rw [e]; omega
    · iexact Hg

end Run

end Cert.Proof.Sample

end
-- ==== Proof.Places.lean ====
/-
  Where each block lies: block `kk` of the tile at grid point `i` is row `pos i kk` of the 672 rows of the problem (three
  channels of 224 rows), and the slices its copies name are that row of the transposed input and of the result.
-/
module

public import proofs.«01_k».proof.Proof.Gather

@[expose] public section

set_option synthInstance.maxSize 4096

noncomputable section

namespace Cert.Proof.Sample

open Cert.KernelIdeal Cert.KernelIdeal.Gen
open Idealize.ShloMosaic

/-- The row of the problem that block `kk` of the tile at `i` treats. -/
def pos (i : grid0.Coords) (kk : Fin 21) : ℕ := 21 * (2 * (i 1).val + (i 0).val) + kk.val

/-- There are 672 rows. -/
theorem pos_lt (i : grid0.Coords) (kk : Fin 21) : pos i kk < 672 := by
  have h0 : (i 0).val < 2 := (i 0).isLt
  have h1 : (i 1).val < 16 := (i 1).isLt
  have h2 := kk.isLt
  unfold pos; omega

/-- The channel of row `v`, as the kernel computes it from the word `v`, -/
def chanWord (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 224#32 0#32)) (Scalar.extui (Scalar.cmpi .slt 224#32 0#32))))
      (Scalar.cmpi .ne (Scalar.remsi v 224#32) 0#32))
    (Scalar.subi (Scalar.divsi v 224#32) 1#32) (Scalar.divsi v 224#32)

/-- and the row inside the channel. -/
def lineWord (v : BitVec 32) : BitVec 32 :=
  let m : BitVec 32 := Scalar.select (Scalar.cmpi .eq 224#32 0#32) 1#32 224#32
  let r : BitVec 32 := Scalar.remsi v m
  Scalar.select (Scalar.andi (Scalar.xori (Scalar.cmpi .slt r 0#32) (Scalar.cmpi .slt m 0#32)) (Scalar.cmpi .ne r 0#32)) (Scalar.addi r m) r

/-- The two words are the quotient and the remainder by 224, at every row. -/
theorem words_val : ∀ p : Fin 672, (chanWord (BitVec.ofNat 32 p.val)).toNat = p.val / 224 ∧ (lineWord (BitVec.ofNat 32 p.val)).toNat = p.val % 224 := by
  decide +kernel

/-- The word of a block's row. -/
theorem pos_word (i : grid0.Coords) (kk : Fin 21) :
    Scalar.addi (Scalar.muli (Scalar.addi (Scalar.muli (BitVec.ofNat 32 (i 1).val) 2#32) (BitVec.ofNat 32 (i 0).val)) 21#32) (BitVec.ofNat 32 kk.val)
      = BitVec.ofNat 32 (pos i kk) := by
  show (BitVec.ofNat 32 (i 1).val * BitVec.ofNat 32 2 + BitVec.ofNat 32 (i 0).val) * BitVec.ofNat 32 21 + BitVec.ofNat 32 kk.val = _
  rw [← BitVec.ofNat_mul, ← BitVec.ofNat_add, ← BitVec.ofNat_mul, ← BitVec.ofNat_add]
  congr 1
  unfold pos; omega

/-- Where a block's slice of the transposed input begins. -/
theorem off1_val (i : grid0.Coords) (kk : Fin 21) : k0_off1 i (BitVec.ofNat 32 kk.val) = ![pos i kk / 224, pos i kk % 224, 0, 0] := by
  have h := words_val ⟨pos i kk, pos_lt i kk⟩
  rw [← pos_word] at h
  exact congrArg₂ (fun a b : ℕ => (![a, b, 0, 0] : Fin 4 → ℕ)) h.1 h.2

/-- Where a block's slice of the result begins. -/
theorem off16_val (i : grid0.Coords) (kk : Fin 21) : k0_off16 i (BitVec.ofNat 32 kk.val) = ![pos i kk / 224, 0, pos i kk % 224, 0] := by
  have h := words_val ⟨pos i kk, pos_lt i kk⟩
  rw [← pos_word] at h
  exact congrArg₂ (fun a b : ℕ => (![a, 0, b, 0] : Fin 4 → ℕ)) h.1 h.2

/-! ## Indices of the two arrays -/

/-- Entry `x` (column, sample) of a block of the transposed input. -/
def xIx (i : grid0.Coords) (kk : Fin 21) (x : S224x128.Idx) : S3x224x224x128.Idx
  | 0 => ⟨pos i kk / 224, by have := pos_lt i kk; show _ < 3; omega⟩
  | 1 => ⟨pos i kk % 224, Nat.mod_lt _ (by decide)⟩
  | 2 => x 0
  | 3 => x 1

/-- Entry `y` (kept sample, column) of a block of the result. -/
def oIx (i : grid0.Coords) (kk : Fin 21) (y : S32x224.Idx) : S3x32x224x224.Idx
  | 0 => ⟨pos i kk / 224, by have := pos_lt i kk; show _ < 3; omega⟩
  | 1 => y 0
  | 2 => ⟨pos i kk % 224, Nat.mod_lt _ (by decide)⟩
  | 3 => y 1

/-- An entry of a block's slice of the transposed input, in the array. -/
theorem xSl_emb (i : grid0.Coords) (kk : Fin 21) (x : S224x128.Idx) : (xSl i kk).view.emb x = xIx i kk x := by
  have e : Shape.reshapeEquiv (s := S1x1x224x128) (s' := S224x128) squeezes_S1x1x224x128_S224x128.numel_eq x
      = (fun | 0 => (⟨0, Nat.one_pos⟩ : Fin 1) | 1 => (⟨0, Nat.one_pos⟩ : Fin 1) | 2 => x 0 | 3 => x 1 : S1x1x224x128.Idx) := by
    refine Shape.reshapeEquiv_eq_of_rowMajor _ ?_
    rw [Shape.rowMajor_val_four, Shape.rowMajor_val_two]
    show ((0 * 1 + 0) * 224 + (x 0).val) * 128 + (x 1).val = (x 0).val * 128 + (x 1).val
    omega
  show (Rect.unit (s := S3x224x224x128) (k0_off1 i (BitVec.ofNat 32 kk.val)) S1x1x224x128.size (k0_off1_inb i kk)).emb
    (Shape.reshapeEquiv (s := S1x1x224x128) (s' := S224x128) squeezes_S1x1x224x128_S224x128.numel_eq x) = _
  rw [e]
  funext a
  apply Fin.ext
  rw [Rect.emb_apply]
  have h := congrFun (off1_val i kk)
  match a with
  | 0 => show k0_off1 i (BitVec.ofNat 32 kk.val) 0 + 1 * 0 = pos i kk / 224; rw [h]; show pos i kk / 224 + 1 * 0 = pos i kk / 224; omega
  | 1 => show k0_off1 i (BitVec.ofNat 32 kk.val) 1 + 1 * 0 = pos i kk % 224; rw [h]; show pos i kk % 224 + 1 * 0 = pos i kk % 224; omega
  | 2 => show k0_off1 i (BitVec.ofNat 32 kk.val) 2 + 1 * (x 0).val = (x 0).val; rw [h]; show 0 + 1 * (x 0).val = (x 0).val; omega
  | 3 => show k0_off1 i (BitVec.ofNat 32 kk.val) 3 + 1 * (x 1).val = (x 1).val; rw [h]; show 0 + 1 * (x 1).val = (x 1).val; omega

/-- An entry of a block's slice of the result, in the array. -/
theorem oSl_emb (i : grid0.Coords) (kk : Fin 21) (y : S32x224.Idx) : (oSl i kk).view.emb y = oIx i kk y := by
  have e : Shape.reshapeEquiv (s := S1x32x1x224) (s' := S32x224) squeezes_S1x32x1x224_S32x224.numel_eq y
      = (fun | 0 => (⟨0, Nat.one_pos⟩ : Fin 1) | 1 => y 0 | 2 => (⟨0, Nat.one_pos⟩ : Fin 1) | 3 => y 1 : S1x32x1x224.Idx) := by
    refine Shape.reshapeEquiv_eq_of_rowMajor _ ?_
    rw [Shape.rowMajor_val_four, Shape.rowMajor_val_two]
    show ((0 * 32 + (y 0).val) * 1 + 0) * 224 + (y 1).val = (y 0).val * 224 + (y 1).val
    omega
  show (Rect.unit (s := S3x32x224x224) (k0_off16 i (BitVec.ofNat 32 kk.val)) S1x32x1x224.size (k0_off16_inb i kk)).emb
    (Shape.reshapeEquiv (s := S1x32x1x224) (s' := S32x224) squeezes_S1x32x1x224_S32x224.numel_eq y) = _
  rw [e]
  funext a
  apply Fin.ext
  rw [Rect.emb_apply]
  have h := congrFun (off16_val i kk)
  match a with
  | 0 => show k0_off16 i (BitVec.ofNat 32 kk.val) 0 + 1 * 0 = pos i kk / 224; rw [h]; show pos i kk / 224 + 1 * 0 = pos i kk / 224; omega
  | 1 => show k0_off16 i (BitVec.ofNat 32 kk.val) 1 + 1 * (y 0).val = (y 0).val; rw [h]; show 0 + 1 * (y 0).val = (y 0).val; omega
  | 2 => show k0_off16 i (BitVec.ofNat 32 kk.val) 2 + 1 * 0 = pos i kk % 224; rw [h]; show pos i kk % 224 + 1 * 0 = pos i kk % 224; omega
  | 3 => show k0_off16 i (BitVec.ofNat 32 kk.val) 3 + 1 * (y 1).val = (y 1).val; rw [h]; show 0 + 1 * (y 1).val = (y 1).val; omega

/-! ## What the kernel keeps -/

/-- Where entry `y` of the result comes from in the transposed input: the same channel, row and column, and the sample kept for `y 1`. -/
def kept (y : S3x32x224x224.Idx) : S3x224x224x128.Idx
  | 0 => y 0
  | 1 => y 2
  | 2 => y 3
  | 3 => ⟨(y 1).val * 127 / 31, by have h : (y 1).val < 32 := (y 1).isLt; exact kept_lt h⟩

/-- The same inside a block: entry `y` of the output comes from column `y 1`, the sample kept for `y 0`. -/
def keptIx (y : S32x224.Idx) : S224x128.Idx :=
  Shape.pair (d := ![224, 128]) (y 1) ⟨(y 0).val * 127 / 31, by have h : (y 0).val < 32 := (y 0).isLt; exact kept_lt h⟩

/-- What the result keeps, seen from a block: the kept entry of a block's entry is the block's kept entry. -/
theorem kept_oIx (i : grid0.Coords) (kk : Fin 21) (y : S32x224.Idx) : kept (oIx i kk y) = xIx i kk (keptIx y) := by
  funext a
  match a with
  | 0 => rfl
  | 1 => rfl
  | 2 => rfl
  | 3 => rfl

/-- Where the gather looks in an input buffer, as an entry of the first 128 columns. -/
theorem inW_emb_keptIx (y : S32x224.Idx) :
    (Rect.unit (s := S224x129) ![0, 0] S224x128.size inb_S224x129_S224x128_0_0).emb (keptIx y) = srcIx y := by
  funext a
  apply Fin.ext
  rw [Rect.emb_apply]
  match a with
  | 0 => show 0 + 1 * (y 1).val = (y 1).val; omega
  | 1 => show 0 + 1 * ((y 0).val * 127 / 31) = (y 0).val * 127 / 31; omega

end Cert.Proof.Sample

end
-- ==== Proof.Copies.lean ====
/-
  The copies of one tile: what each start takes and puts in flight, and what each wait brings back.
-/
module

public import proofs.«01_k».proof.Proof.Places

@[expose] public section

set_option synthInstance.maxSize 4096

noncomputable section

namespace Cert.Proof.Sample

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- What the kernel makes of the transposed input `X`: every entry of the result is the entry `kept` names. -/
def picked {d : Dev nD} (X : Buf (Elt F) (xLoc d)) : Buf (Elt F) (oLoc d) := fun y : S3x32x224x224.Idx => X (kept y)

section Copies

variable [FloatOps F] (d : Dev nD) (i : grid0.Coords) (X : Buf (Elt F) (xLoc d))

/-! ## What a tile holds -/

/-- Block `kk` of the transposed input, at its contents. -/
abbrev xPiece (kk : Fin 21) : sProp 𝕄 := (xSl i kk).view.loc (thr d i) ↦[(xSl i kk).view.set]{fullShare} X
/-- Block `kk` of the result, at contents `f`. -/
abbrev oPiece (kk : Fin 21) (f : Buf (Elt F) (oLoc d)) : sProp 𝕄 := (oSl i kk).view.loc (thr d i) ↦[(oSl i kk).view.set]{fullShare} f
/-- Block `kk` of the result, still as the launch left it (whatever that is), and finished. -/
abbrev oRaw (kk : Fin 21) : sProp 𝕄 := iprop(∃ f, oPiece d i kk f)
/-- Block `kk` of the result, finished. -/
abbrev oDone (kk : Fin 21) : sProp 𝕄 := oPiece d i kk (picked X)

/-- The semaphores of parity `p`, at zero. -/
abbrev inZero (p : Fin 2) : sProp 𝕄 := semVal (thr d i, SemLoc.dma (inS p)) 0
/-- The copies-out semaphore of parity `p`, at zero. -/
abbrev outZero (p : Fin 2) : sProp 𝕄 := semVal (thr d i, SemLoc.dma (outS p)) 0

/-- Buffers of parity `p` with no copy in flight. -/
def inIdle (p : Fin 2) : sProp 𝕄 := iprop((∃ f, inPts d i p f) ∗ inZero d i p)
/-- The output buffer of parity `p` with no copy in flight. -/
def outIdle (p : Fin 2) : sProp 𝕄 := iprop((∃ g, outPts d i p g) ∗ outZero d i p)

/-- An input buffer holding block `kk`: its first 128 columns read the block. -/
def inFull (kk : Fin 21) : sProp 𝕄 :=
  iprop(∃ f, ⌜∀ x, (inW (par kk)).view.read (Elt F) f x = X (xIx i kk x)⌝ ∗ inPts d i (par kk) f)
/-- An output buffer holding what block `kk` of the result should be. -/
def outFull (kk : Fin 21) : sProp 𝕄 :=
  iprop(∃ g, ⌜∀ y, outRd d i (par kk) g y = picked X (oIx i kk y)⌝ ∗ outPts d i (par kk) g)

/-- What a copy in adds to its semaphore. -/
abbrev inN (p : Fin 2) : ℕ := (inW p).view.dmaCredit
/-- What a copy out adds to its semaphore. -/
abbrev outN (kk : Fin 21) : ℕ := (oSl i kk).view.dmaCredit

/-- Block `kk`'s copy in, in flight: it will deliver the filled buffer and the slice it reads. -/
def inFly (kk : Fin 21) : sProp 𝕄 :=
  Transfers.Flight EC (thr d i) (SemLoc.dma (inS (par kk))) none (inN (par kk)) iprop(inFull d i X kk ∗ xPiece d i X kk)
/-- Block `kk`'s copy out, in flight: it will deliver the finished slice and the buffer. -/
def outFly (kk : Fin 21) : sProp 𝕄 :=
  Transfers.Flight EC (thr d i) (SemLoc.dma (outS (par kk))) none (outN i kk) iprop(oDone d i X kk ∗ ∃ g, outPts d i (par kk) g)

/-- What lets a tile wait: its debts, all of later stages than its own copies, and the waits recorded so far. -/
def own (O : CellTallies nD τ sig (HIx 1)) (W : Waits sig (HIx 1)) : sProp 𝕄 :=
  iprop(Transfers.MayWaits (thr d i) none O ∗ ∃ W', ⌜∀ p ∈ W', p ∈ W ∨ p.2 = none⌝ ∗ owes (thr d i) O W')

/-! ## Reading the slices -/

/-- Reading block `kk` of the transposed input gives its entries. -/
theorem xSl_read (kk : Fin 21) (x : S224x128.Idx) : (xSl i kk).view.read (Elt F) (X : Buf (Elt F) ((xSl i kk).view.loc (thr d i))) x = X (xIx i kk x) := by
  rw [← xSl_emb]; rfl

/-- A copy in adds something. -/
theorem inN_pos (p : Fin 2) : 0 < inN p := View.dmaCredit_pos _ (by decide)
/-- A copy out adds something. -/
theorem outN_pos (kk : Fin 21) : 0 < outN i kk := View.dmaCredit_pos _ (by decide)

/-- A finished output buffer, copied out over any contents, leaves the slice finished. -/
theorem oPiece_write (kk : Fin 21) (f : Buf (Elt F) (oLoc d)) (g : Buf (Elt F) ((outB (par kk)).view.loc (thr d i)))
    (hg : ∀ y, outRd d i (par kk) g y = picked X (oIx i kk y)) :
    (oPiece d i kk ((oSl i kk).view.write (Elt F) f ((outB (par kk)).view.read (Elt F) g) Finset.univ) : sProp 𝕄) = oDone d i X kk := by
  refine pointsTo_congr fun z hz => ?_
  obtain ⟨y, -, rfl⟩ := Finset.mem_map.mp hz
  refine (View.write_emb_of_mem (v := (oSl i kk).view) f _ (Finset.mem_univ y)).trans ?_
  refine (hg y).trans ?_
  rw [← oSl_emb]

/-! ## The copies -/

variable {d i X}

/-- Starting the copy in of a block: from an idle input buffer and the block's slice to the copy in flight. -/
theorem startIn_run (kk : Fin 21) : iprop(inIdle d i (par kk) ∗ xPiece d i X kk) ⊢ WP d i (startIn i kk) fun _ => inFly d i X kk := by
  unfold inIdle
  iintro ⟨⟨⟨%f, Hf⟩, Hz⟩, Hx⟩
  unfold startIn Prog.lift
  iapply (Transfers.wp_dmaLocal EC 𝒱₀ (thr d i) none (none : HIx 1) (inN (par kk)) rfl (inN_pos _) (Finset.subset_univ _) (q := fullShare) (fs := X) (fd := f)
    (src := xSl i kk) (dst := inW (par kk)) (Sd := Finset.univ)) $$ [Hf Hz Hx]
  · isplitl [Hx]; · iexact Hx
    isplitl [Hf]; · iexact Hf
    iexact Hz
  iintro Hfl
  rw [wp_ret]
  imodintro
  unfold inFly
  iapply (Transfers.Flight_mono EC (thr d i) ?_) $$ Hfl
  iintro ⟨Hf, Hx⟩
  isplitl [Hf]
  · unfold inFull
    iexists _
    isplitr
    rotate_left
    · iexact Hf
    · ipureintro
      intro x
      rw [View.read_write_univ]
      exact xSl_read d i X kk x
  · iexact Hx

/-- Waiting for a copy in: the input buffer is filled and the slice is back. -/
theorem waitIn_run (O : CellTallies nD τ sig (HIx 1)) (W : Waits sig (HIx 1)) (kk : Fin 21) :
    iprop(inFly d i X kk ∗ own d i O W) ⊢ WP d i (waitIn i kk) fun _ =>
      iprop((inFull d i X kk ∗ xPiece d i X kk) ∗ inZero d i (par kk) ∗ own d i O W) := by
  unfold inFly own
  iintro ⟨Hfl, #Hmw, %W', %hW, HO⟩
  unfold waitIn Prog.lift
  iapply (Transfers.wp_waitLocalO EC 𝒱₀ (thr d i) none (none : HIx 1) (N := inN (par kk)) rfl (O := O) (W := W')
    (srcw := xSl i kk) (dstw := inW (par kk))) $$ [Hfl HO]
  · isplitl [Hfl]; · iexact Hfl
    isplitl [HO]; · iexact HO
    iapply (Transfers.MayWaits.elim (SemLoc.dma (inS (par kk)))); iexact Hmw
  iintro ⟨HD, Hz, HO⟩
  rw [wp_ret]
  imodintro
  isplitl [HD]; · iexact HD
  isplitl [Hz]; · iexact Hz
  isplitr; · iexact Hmw
  iexists _
  isplitr
  rotate_left
  · iexact HO
  · ipureintro
    intro p hp
    rcases Finset.mem_insert.mp hp with rfl | hp
    · exact .inr rfl
    · exact hW p hp

/-- Starting the copy out of a block: from a finished output buffer and the block's slice of the result to the copy in flight. -/
theorem startOut_run (kk : Fin 21) : iprop(outFull d i X kk ∗ outZero d i (par kk) ∗ oRaw d i kk) ⊢ WP d i (startOut i kk) fun _ => outFly d i X kk := by
  unfold outFull
  iintro ⟨⟨%g, %hg, Hg⟩, Hz, %f, Ho⟩
  unfold startOut Prog.lift
  iapply (Transfers.wp_dmaLocal EC 𝒱₀ (thr d i) none (none : HIx 1) (outN i kk) rfl (outN_pos i kk) (Finset.Subset.refl _) (q := fullShare) (fs := g) (fd := f)
    (src := outB (par kk)) (dst := oSl i kk)) $$ [Hg Hz Ho]
  · isplitl [Hg]
    · rw [(outB_whole (par kk)).set_eq_univ]; iexact Hg
    isplitl [Ho]; · iexact Ho
    iexact Hz
  iintro Hfl
  rw [wp_ret]
  imodintro
  unfold outFly
  iapply (Transfers.Flight_mono EC (thr d i) ?_) $$ Hfl
  rw [(outB_whole (par kk)).set_eq_univ]
  iintro ⟨Ho, Hg⟩
  isplitl [Ho]
  · iapply (Entails.of_eq (oPiece_write d i X kk f g hg)) $$ Ho
  · iexists _; iexact Hg

/-- Waiting for a copy out: the block's slice is finished and the output buffer is idle. -/
theorem waitOut_run (O : CellTallies nD τ sig (HIx 1)) (W : Waits sig (HIx 1)) (kk : Fin 21) :
    iprop(outFly d i X kk ∗ own d i O W) ⊢ WP d i (waitOut i kk) fun _ =>
      iprop(oDone d i X kk ∗ outIdle d i (par kk) ∗ own d i O W) := by
  unfold outFly own outIdle
  iintro ⟨Hfl, #Hmw, %W', %hW, HO⟩
  unfold waitOut Prog.lift
  iapply (Transfers.wp_waitLocalO EC 𝒱₀ (thr d i) none (none : HIx 1) (N := outN i kk) rfl (O := O) (W := W')
    (srcw := outB (par kk)) (dstw := oSl i kk)) $$ [Hfl HO]
  · isplitl [Hfl]; · iexact Hfl
    isplitl [HO]; · iexact HO
    iapply (Transfers.MayWaits.elim (SemLoc.dma (outS (par kk)))); iexact Hmw
  iintro ⟨⟨Ho, Hg⟩, Hz, HO⟩
  rw [wp_ret]
  imodintro
  isplitl [Ho]; · iexact Ho
  isplitl [Hg Hz]
  · isplitl [Hg]; · iexact Hg
    iexact Hz
  isplitr; · iexact Hmw
  iexists _
  isplitr
  rotate_left
  · iexact HO
  · ipureintro
    intro p hp
    rcases Finset.mem_insert.mp hp with rfl | hp
    · exact .inr rfl
    · exact hW p hp

/-- The gather turns a filled input buffer into a finished output buffer. -/
theorem fill_run (kk : Fin 21) : iprop(inFull d i X kk ∗ ∃ g, outPts d i (par kk) g) ⊢ WP d i (gather i kk) fun _ =>
      iprop((∃ f, inPts d i (par kk) f) ∗ outFull d i X kk) := by
  unfold inFull outFull
  iintro ⟨⟨%f, %hf, Hf⟩, Hg⟩
  ihave H := (gather_run d i kk f) $$ [Hf Hg]
  · isplitl [Hf]; · iexact Hf
    iexact Hg
  iapply (wp_mono _ _ _ fun _ => ?_) $$ H
  iintro ⟨Hf, %g, %hg, Hg⟩
  isplitl [Hf]; · iexists f; iexact Hf
  iexists g
  isplitr
  · ipureintro
    intro y
    rw [hg y]
    refine Eq.trans ?_ (congrArg X (kept_oIx i kk y)).symm
    rw [← hf (keptIx y), ← inW_emb_keptIx y]
    rfl
  · iexact Hg

end Copies

end Cert.Proof.Sample

end
-- ==== Proof.Tile.lean ====
/-
  One tile's whole work: from its 21 blocks of the transposed input and of the result, idle buffers and semaphores, the
  script ends with the same, every block of the result finished.
-/
module

public import proofs.«01_k».proof.Proof.Copies

@[expose] public section

set_option synthInstance.maxSize 4096

noncomputable section

namespace Cert.Proof.Sample

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The parity of a number. -/
abbrev parN (n : ℕ) : Fin 2 := ⟨n % 2, Nat.mod_lt _ (by decide)⟩

/-! ## Which blocks are where -/

/-- The blocks other than `n`, the blocks from `n` on, and the blocks more than two before `n`. -/
def others (n : ℕ) : Finset (Fin 21) := Finset.univ.filter fun j => j.val ≠ n
/-- The blocks from `n` on. -/
def later (n : ℕ) : Finset (Fin 21) := Finset.univ.filter fun j => n ≤ j.val
/-- The blocks more than two before `n`. -/
def earlier (n : ℕ) : Finset (Fin 21) := Finset.univ.filter fun j => j.val + 2 < n
/-- The blocks other than `n` and `n + 1`. -/
def rest (n : ℕ) : Finset (Fin 21) := Finset.univ.filter fun j => j.val ≠ n ∧ j.val ≠ n + 1

/-- The blocks other than `n` are the next one and the rest. -/
theorem others_eq (n : ℕ) (h : n + 1 < 21) : others n = insert ⟨n + 1, h⟩ (rest n) := by
  ext j; simp only [others, rest, Finset.mem_insert, Finset.mem_filter, Finset.mem_univ, true_and, Fin.ext_iff]; omega
/-- The last block has no next one. -/
theorem others_last : others 20 = rest 20 := by
  ext j; have := j.isLt; simp only [others, rest, Finset.mem_filter, Finset.mem_univ, true_and]; omega
/-- The blocks other than the next one are this one and the rest. -/
theorem others_succ (kk : Fin 21) : others (kk.val + 1) = insert kk (rest kk.val) := by
  ext j; simp only [others, rest, Finset.mem_insert, Finset.mem_filter, Finset.mem_univ, true_and, Fin.ext_iff]; omega
/-- The blocks from this one on are this one and those after it. -/
theorem later_eq (kk : Fin 21) : later kk.val = insert kk (later (kk.val + 1)) := by
  ext j; simp only [later, Finset.mem_insert, Finset.mem_filter, Finset.mem_univ, true_and, Fin.ext_iff]; omega
/-- One block on, the block two before joins the earlier ones. -/
theorem earlier_succ (n : ℕ) (h : 2 ≤ n) (hn : n - 2 < 21) : earlier (n + 1) = insert ⟨n - 2, hn⟩ (earlier n) := by
  ext j; simp only [earlier, Finset.mem_insert, Finset.mem_filter, Finset.mem_univ, true_and, Fin.ext_iff]; omega
/-- The first three counts have no earlier block. -/
theorem earlier_zero (n : ℕ) (h : n ≤ 2) : earlier n = ∅ := by
  ext j; simp only [earlier, Finset.mem_filter, Finset.mem_univ, true_and, Finset.notMem_empty, iff_false]; omega
/-- After the last block none is left. -/
theorem later_end : later 21 = ∅ := by
  ext j; have := j.isLt; simp only [later, Finset.mem_filter, Finset.mem_univ, true_and, Finset.notMem_empty, iff_false]; omega
/-- At the start all are left. -/
theorem later_zero : later 0 = Finset.univ := by
  ext j; simp [later]
/-- No block has number 21. -/
theorem others_end : others 21 = Finset.univ := by
  ext j; have := j.isLt; simp only [others, Finset.mem_filter, Finset.mem_univ, true_and, iff_true]; omega
/-- At count 23 every block is an earlier one. -/
theorem earlier_end : earlier 23 = Finset.univ := by
  ext j; have := j.isLt; simp only [earlier, Finset.mem_filter, Finset.mem_univ, true_and, iff_true]; omega
/-- All blocks are the first and the others. -/
theorem univ_zero : (Finset.univ : Finset (Fin 21)) = insert 0 (others 0) := by
  ext j; simp only [others, Finset.mem_insert, Finset.mem_filter, Finset.mem_univ, true_and, Fin.ext_iff, true_iff]
  show j.val = 0 ∨ _; omega

section Tile

variable [FloatOps F] (d : Dev nD) (i : grid0.Coords) (X : Buf (Elt F) (xLoc d)) (O : CellTallies nD τ sig (HIx 1)) (W : Waits sig (HIx 1))

/-! ## The state between blocks -/

/-- The input buffer block `n` uses: its copy in flight, or idle when there is no block `n`. -/
def inAt (n : ℕ) : sProp 𝕄 := if h : n < 21 then inFly d i X ⟨n, h⟩ else inIdle d i (parN n)
/-- The output buffer block `n` uses: the copy out of block `n - 2` in flight, or idle when there is no such block. -/
def outAt (n : ℕ) : sProp 𝕄 := if h : 2 ≤ n ∧ n - 2 < 21 then outFly d i X ⟨n - 2, h.2⟩ else outIdle d i (parN n)

/-- Before block `n`: its copy in is started, the other input buffer is idle, the copies out of the two blocks before it
    are under way, every block before those is finished. -/
def St (n : ℕ) : sProp 𝕄 :=
  iprop((inAt d i X n ∗ inIdle d i (parN (n + 1)) ∗ bigSep (others n) (xPiece d i X))
    ∗ (outAt d i X n ∗ outAt d i X (n + 1) ∗ bigSep (earlier n) (oDone d i X))
    ∗ bigSep (later n) (oRaw d i) ∗ own d i O W)

variable {d i X O W}

/-- Two blocks on, the buffers are the same. -/
theorem par_two (n : ℕ) : parN (n + 2) = parN n := Fin.ext (by show (n + 2) % 2 = n % 2; omega)
/-- Two blocks back, the buffers are the same. -/
theorem par_sub (n : ℕ) (h : 2 ≤ n) : parN (n - 2) = parN n := Fin.ext (by show (n - 2) % 2 = n % 2; omega)

/-- There is a block `kk`: its copy in is in flight. -/
theorem inAt_fly (kk : Fin 21) : inAt d i X kk.val = inFly d i X kk := dif_pos kk.isLt
/-- Two blocks after block `kk` its copy out is in flight. -/
theorem outAt_fly (kk : Fin 21) : outAt d i X (kk.val + 2) = outFly d i X kk :=
  dif_pos (⟨by omega, by have := kk.isLt; omega⟩ : 2 ≤ kk.val + 2 ∧ kk.val + 2 - 2 < 21)
/-- The first two blocks find their output buffers idle. -/
theorem outAt_idle (n : ℕ) (h : n < 2) : outAt d i X n = outIdle d i (parN n) := dif_neg (by omega)

/-- The start of the next block's copy in, where there is a next block. -/
theorem next_run (kk : Fin 21) :
    Spec d i (if h : kk.val + 1 < 21 then [startIn i ⟨kk.val + 1, h⟩] else []) iprop(inIdle d i (parN (kk.val + 1)) ∗ bigSep (others kk.val) (xPiece d i X))
      iprop(inAt d i X (kk.val + 1) ∗ bigSep (rest kk.val) (xPiece d i X)) := by
  by_cases h : kk.val + 1 < 21
  · rw [dif_pos h, others_eq _ h, SparseCore.bigSep_insert' (by simp [rest])]
    refine ((Spec.one (startIn_run (X := X) ⟨kk.val + 1, h⟩)).frame (bigSep (rest kk.val) (xPiece d i X))).conseq ?_ ?_
    · iintro ⟨Hi, Hx, Hr⟩
      isplitr [Hr]
      · isplitl [Hi]; · iexact Hi
        iexact Hx
      · iexact Hr
    · rw [show inAt d i X (kk.val + 1) = inFly d i X ⟨kk.val + 1, h⟩ from dif_pos h]
  · have e : kk.val = 20 := by have := kk.isLt; omega
    rw [dif_neg h, e, others_last, show inAt d i X (20 + 1) = inIdle d i (parN (20 + 1)) from dif_neg (by omega)]
    exact Spec.nil .rfl

/-- The wait for the copy out of two blocks before, where there is such a block: the output buffer is idle again. -/
theorem back_run (n : ℕ) (hn : n - 2 < 21) :
    Spec d i (if h : 2 ≤ n then [waitOut i ⟨n - 2, hn⟩] else []) iprop((outAt d i X n ∗ bigSep (earlier n) (oDone d i X)) ∗ own d i O W)
      iprop((outIdle d i (parN n) ∗ bigSep (earlier (n + 1)) (oDone d i X)) ∗ own d i O W) := by
  by_cases h : 2 ≤ n
  · rw [dif_pos h, earlier_succ n h hn, SparseCore.bigSep_insert' (by simp [earlier]; omega),
      show outAt d i X n = outFly d i X ⟨n - 2, hn⟩ from dif_pos ⟨h, hn⟩, ← par_sub n h]
    refine ((Spec.one (waitOut_run (X := X) O W ⟨n - 2, hn⟩)).frame (bigSep (earlier n) (oDone d i X))).conseq ?_ ?_
    · iintro ⟨⟨Hf, He⟩, Ho⟩
      isplitr [He]
      · isplitl [Hf]; · iexact Hf
        iexact Ho
      · iexact He
    · iintro ⟨⟨Hd, Hi, Ho⟩, He⟩
      isplitr [Ho]
      · isplitl [Hi]; · iexact Hi
        isplitl [Hd]; · iexact Hd
        iexact He
      · iexact Ho
  · rw [dif_neg h, outAt_idle n (by omega), earlier_zero n (by omega), earlier_zero (n + 1) (by omega)]
    exact Spec.nil .rfl

/-- The end of a script. -/
theorem wp_pure_unit (d : Dev nD) (i : grid0.Coords) {Q : PUnit → sProp 𝕄} :
    Q PUnit.unit ⊢ WP d i (chain ([] : List (TileProg F i PUnit)) (pure PUnit.unit)) Q := by
  show _ ⊢ wp frame (wpE (defs₀ (F := F)) 𝒱₀ (thr d i) none) Set.univ (.ret PUnit.unit) Q
  rw [wp_ret]
  iintro H
  imodintro
  iexact H

/-- One block. -/
theorem block_run (kk : Fin 21) : Spec d i (block i kk) (St d i X O W kk.val) (St d i X O W (kk.val + 1)) := by
  unfold Spec St
  have hl : bigSep (later kk.val) (oRaw (F := F) d i) = iprop(oRaw d i kk ∗ bigSep (later (kk.val + 1)) (oRaw d i)) := by
    rw [later_eq, SparseCore.bigSep_insert' (by simp [later])]
  have ho : bigSep (others (kk.val + 1)) (xPiece d i X) = iprop(xPiece d i X kk ∗ bigSep (rest kk.val) (xPiece d i X)) := by
    rw [others_succ, SparseCore.bigSep_insert' (by simp [rest])]
  rw [hl, ho, inAt_fly, show kk.val + 1 + 1 = kk.val + 2 from rfl, outAt_fly, par_two]
  iintro ⟨⟨Hfly, Hidle, Hxs⟩, ⟨Hout, Hout', Hdone⟩, ⟨Hraw, Hlater⟩, Hown⟩
  unfold block
  iapply (next_run (X := X) kk).go $$ [Hidle Hxs]
  · isplitl [Hidle] <;> iassumption
  iintro ⟨Hnext, Hxs⟩
  iapply (Spec.goOne (waitIn_run (X := X) O W kk)) $$ [Hfly Hown]
  · isplitl [Hfly] <;> iassumption
  iintro ⟨⟨Hfull, Hx⟩, Hz, Hown⟩
  iapply (back_run (X := X) (O := O) (W := W) kk.val (by have := kk.isLt; omega)).go $$ [Hout Hdone Hown]
  · isplitr [Hown]
    · isplitl [Hout] <;> iassumption
    · iexact Hown
  unfold outIdle
  iintro ⟨⟨⟨Hbuf, Hoz⟩, Hdone⟩, Hown⟩
  iapply (Spec.goOne (fill_run (X := X) kk)) $$ [Hfull Hbuf]
  · isplitl [Hfull] <;> iassumption
  iintro ⟨Hin, Hofull⟩
  iapply (Spec.goOne (startOut_run (X := X) kk)) $$ [Hofull Hoz Hraw]
  · isplitl [Hofull]; · iexact Hofull
    isplitl [Hoz] <;> iassumption
  iintro Hofly
  iapply (wp_pure_unit d i)
  isplitl [Hnext Hin Hz Hx Hxs]
  · isplitl [Hnext]; · iexact Hnext
    isplitl [Hin Hz]
    · unfold inIdle
      isplitl [Hin] <;> iassumption
    · isplitl [Hx] <;> iassumption
  isplitl [Hout' Hofly Hdone]
  · isplitl [Hout']; · iexact Hout'
    isplitl [Hofly] <;> iassumption
  isplitl [Hlater] <;> iassumption

/-- The two waits at the end. -/
theorem last_run : Spec d i [waitOut i 20, waitOut i 19] (St d i X O W 21)
    iprop((inIdle d i 0 ∗ inIdle d i 1 ∗ outIdle d i 0 ∗ outIdle d i 1) ∗ (bigSep Finset.univ (xPiece d i X) ∗ bigSep Finset.univ (oDone d i X)) ∗ own d i O W) := by
  unfold Spec St
  have e1 : outAt d i X 21 = outFly d i X 19 := outAt_fly (19 : Fin 21)
  have e2 : outAt d i X (21 + 1) = outFly d i X 20 := outAt_fly (20 : Fin 21)
  have e3 : inAt d i X 21 = inIdle d i 1 := dif_neg (by omega)
  have e4 : bigSep Finset.univ (oDone d i X) = iprop(oDone d i X 20 ∗ oDone d i X 19 ∗ bigSep (earlier 21) (oDone d i X)) := by
    rw [← earlier_end, earlier_succ 22 (by omega) (by omega), SparseCore.bigSep_insert' (by simp [earlier]), earlier_succ 21 (by omega) (by omega),
      SparseCore.bigSep_insert' (by simp [earlier])]
    rfl
  rw [e1, e2, e3, e4, others_end]
  iintro ⟨⟨Hi1, Hi0, Hx⟩, ⟨H19, H20, Hd⟩, -, Hown⟩
  iapply (Spec.goOne (waitOut_run (X := X) O W 20)) $$ [H20 Hown]
  · isplitl [H20] <;> iassumption
  iintro ⟨Hd20, Ho0, Hown⟩
  iapply (Spec.goOne (waitOut_run (X := X) O W 19)) $$ [H19 Hown]
  · isplitl [H19] <;> iassumption
  iintro ⟨Hd19, Ho1, Hown⟩
  iapply (wp_pure_unit d i)
  isplitl [Hi0 Hi1 Ho0 Ho1]
  · isplitl [Hi0]; · iexact Hi0
    isplitl [Hi1]; · iexact Hi1
    isplitl [Ho0]; · iexact Ho0
    iexact Ho1
  isplitr [Hown]
  · isplitl [Hx]; · iexact Hx
    isplitl [Hd20]; · iexact Hd20
    isplitl [Hd19] <;> iassumption
  · iexact Hown

/-- The whole of a tile's work. -/
theorem script_run : Spec d i (script i)
    iprop((inIdle d i 0 ∗ inIdle d i 1 ∗ outIdle d i 0 ∗ outIdle d i 1) ∗ (bigSep Finset.univ (xPiece d i X) ∗ bigSep Finset.univ (oRaw d i)) ∗ own d i O W)
    iprop((inIdle d i 0 ∗ inIdle d i 1 ∗ outIdle d i 0 ∗ outIdle d i 1) ∗ (bigSep Finset.univ (xPiece d i X) ∗ bigSep Finset.univ (oDone d i X)) ∗ own d i O W) := by
  refine Spec.append (l := [startIn i 0]) (R := St d i X O W 0) ?_ ((Spec.flatten (I := fun n => St d i X O W n) fun kk => block_run kk).append last_run)
  refine ((Spec.one (startIn_run (X := X) 0)).frame iprop(inIdle d i (parN 1) ∗ (outIdle d i (parN 0) ∗ outIdle d i (parN 1)) ∗ (bigSep (others 0) (xPiece d i X) ∗ bigSep Finset.univ (oRaw d i)) ∗ own d i O W)).conseq ?_ ?_
  · rw [show bigSep Finset.univ (xPiece d i X) = iprop(xPiece d i X 0 ∗ bigSep (others 0) (xPiece d i X)) by
      conv_lhs => rw [univ_zero]
      exact SparseCore.bigSep_insert' (by simp [others])]
    iintro ⟨⟨Hi0, Hi1, Ho0, Ho1⟩, ⟨⟨Hx, Hxs⟩, Hraw⟩, Hown⟩
    isplitl [Hi0 Hx]
    · isplitl [Hi0]; · iexact Hi0
      iexact Hx
    isplitl [Hi1]; · iexact Hi1
    isplitl [Ho0 Ho1]
    · isplitl [Ho0]; · iexact Ho0
      iexact Ho1
    isplitr [Hown]
    · isplitl [Hxs] <;> iassumption
    · iexact Hown
  · unfold St
    rw [show inAt d i X 0 = inFly d i X 0 from inAt_fly (0 : Fin 21), outAt_idle 0 (by omega), outAt_idle (0 + 1) (by omega), earlier_zero 0 (by omega), bigSep_empty, later_zero]
    iintro ⟨Hf, Hi1, ⟨Ho0, Ho1⟩, ⟨Hxs, Hraw⟩, Hown⟩
    isplitl [Hf Hi1 Hxs]
    · isplitl [Hf]; · iexact Hf
      isplitl [Hi1]; · iexact Hi1
      iexact Hxs
    isplitl [Ho0 Ho1]
    · isplitl [Ho0]; · iexact Ho0
      isplitl [Ho1]; · iexact Ho1
      iempintro
    isplitl [Hraw] <;> iassumption

end Tile

end Cert.Proof.Sample

end
-- ==== Proof.Equation.lean ====
/-
  The printed kernel function is the list of fragments: its 48 windows read one after the other, each against the
  fragments it runs.
-/
module

public import proofs.«01_k».proof.Proof.Fragments

@[expose] public section

set_option synthInstance.maxSize 4096

noncomputable section

namespace Cert.Proof.Sample

open Cert.KernelIdeal Cert.KernelIdeal.Gen
open Idealize.ShloMosaic Idealize.SL.Sem

variable {F : FTy → Type} [FloatOps F]

/-- The kernel function on the launch's buffers. -/
abbrev kernelFn (i : grid0.Coords) : TileProg F i PUnit :=
  cc0_k i xV (Memref.isWhole_whole _) oV (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

set_option maxRecDepth 65536 in
set_option maxHeartbeats 4000000 in
/-- The kernel function runs `script`. -/
theorem kernelFn_eq (i : grid0.Coords) : kernelFn (F := F) i = chain (script i) (pure ⟨⟩) := by
  refine Eq.trans (b := chain _ _) (?_ : cc0_k _ _ _ _ _ _ _ _ _ _ _ _ _ _ _ _ _ = _) (congrArg (fun l => chain l _) (rfl : _ = script i))
  unfold cc0_k k0_part91
  simp only [bind_assoc]
  exact
    window [] rfl <|
    window [startIn i 0] rfl <|
    window [startIn i 1, waitIn i 0, gather i 0] rfl <|
    window [startOut i 0] rfl <|
    window [startIn i 2, waitIn i 1, gather i 1] rfl <|
    window [startOut i 1] rfl <|
    window [startIn i 3, waitIn i 2, waitOut i 0, gather i 2] rfl <|
    window [startOut i 2] rfl <|
    window [startIn i 4, waitIn i 3] rfl <|
    window [waitOut i 1, gather i 3] rfl <|
    window [startOut i 3, startIn i 5] rfl <|
    window [waitIn i 4, waitOut i 2, gather i 4] rfl <|
    window [startOut i 4] rfl <|
    window [startIn i 6, waitIn i 5, waitOut i 3, gather i 5] rfl <|
    window [startOut i 5] rfl <|
    window [startIn i 7, waitIn i 6] rfl <|
    window [waitOut i 4, gather i 6, startOut i 6] rfl <|
    window [startIn i 8] rfl <|
    window [waitIn i 7, waitOut i 5, gather i 7] rfl <|
    window [startOut i 7] rfl <|
    window [startIn i 9, waitIn i 8, waitOut i 6, gather i 8] rfl <|
    window [startOut i 8] rfl <|
    window [startIn i 10, waitIn i 9, waitOut i 7] rfl <|
    window [gather i 9, startOut i 9] rfl <|
    window [startIn i 11] rfl <|
    window [waitIn i 10, waitOut i 8, gather i 10] rfl <|
    window [startOut i 10] rfl <|
    window [startIn i 12, waitIn i 11, waitOut i 9, gather i 11] rfl <|
    window [startOut i 11] rfl <|
    window [startIn i 13, waitIn i 12, waitOut i 10] rfl <|
    window [gather i 12, startOut i 12] rfl <|
    window [startIn i 14] rfl <|
    window [waitIn i 13, waitOut i 11, gather i 13] rfl <|
    window [startOut i 13] rfl <|
    window [startIn i 15, waitIn i 14, waitOut i 12, gather i 14] rfl <|
    window [startOut i 14] rfl <|
    window [startIn i 16, waitIn i 15, waitOut i 13, gather i 15] rfl <|
    window [startOut i 15] rfl <|
    window [startIn i 17] rfl <|
    window [waitIn i 16, waitOut i 14, gather i 16] rfl <|
    window [startOut i 16] rfl <|
    window [startIn i 18, waitIn i 17, waitOut i 15, gather i 17] rfl <|
    window [startOut i 17] rfl <|
    window [startIn i 19, waitIn i 18, waitOut i 16, gather i 18] rfl <|
    window [startOut i 18] rfl <|
    window [startIn i 20, waitIn i 19] rfl <|
    window [waitOut i 17, gather i 19] rfl <|
    window [startOut i 19, waitIn i 20, waitOut i 18, gather i 20] rfl <|
    (rfl : _ = chain [startOut i 20, waitOut i 20, waitOut i 19] (pure PUnit.unit))

end Cert.Proof.Sample

end
-- ==== Proof.Launch.lean ====
/-
  From one tile to the whole program: a tile's own buffers and semaphores, the launch's division of the arrays into
  672 blocks, @main, and the run of the program with its value.
-/
module

public import proofs.«01_k».proof.Proof.Tile
public import proofs.«01_k».proof.Proof.Equation

@[expose] public section

set_option synthInstance.maxSize 4096

noncomputable section

namespace Cert.Proof.Sample

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A tile's own buffers and semaphores -/

/-- Four members of a set, and the others. -/
theorem four_of {A : Type} [DecidableEq A] {s : Finset A} (f : Fin 4 → A) (hf : Function.Injective f) (hs : ∀ j, f j ∈ s) (Φ : A → sProp 𝕄) :
    bigSep s Φ = iprop((Φ (f 0) ∗ Φ (f 1) ∗ Φ (f 2) ∗ Φ (f 3)) ∗ bigSep (s \ Finset.univ.image f) Φ) := by
  have e : s = Finset.univ.map ⟨f, hf⟩ ∪ (s \ Finset.univ.image f) := by
    rw [Finset.map_eq_image]
    exact (Finset.union_sdiff_of_subset fun a ha => by obtain ⟨j, -, rfl⟩ := Finset.mem_image.mp ha; exact hs j).symm
  have hd : Disjoint (Finset.univ.map ⟨f, hf⟩) (s \ Finset.univ.image f) := by rw [Finset.map_eq_image]; exact Finset.disjoint_sdiff
  conv_lhs => rw [e]
  rw [SparseCore.bigSep_union' hd, bigSep_map]
  congr 1
  rw [show (Finset.univ : Finset (Fin 4)) = {0, 1, 2, 3} by decide, SparseCore.bigSep_insert' (by decide), SparseCore.bigSep_insert' (by decide),
    SparseCore.bigSep_insert' (by decide), bigSep_singleton]
  rfl

section Tile

variable (d : Dev nD) (i : grid0.Coords)

/-- The kernel's four scratch buffers, and its four DMA semaphores on a tile. -/
def scratch : Fin 4 → Ref sig .scVector := ![cc0_scratch0, cc0_scratch1, cc0_scratch2, cc0_scratch3]
/-- The kernel's four DMA semaphores. -/
def semAt : Fin 4 → SemLoc sig := ![.dma (inS 0), .dma (inS 1), .dma (outS 0), .dma (outS 1)]

/-- The four buffers are distinct. -/
theorem scratch_injective : Function.Injective scratch := by decide
/-- The four semaphores are distinct. -/
theorem semAt_injective : Function.Injective semAt := by decide
/-- Each of the four semaphores is a tile's own. -/
theorem semAt_scoped : ∀ j, (semAt j).isScoped .scVector = true := by decide

/-- A tile's buffers and semaphores that the kernel does not use. -/
def spare : sProp 𝕄 :=
  iprop((bigSep (ownRefs (τ := τ) (.scVector (cV i) (jV i)) \ Finset.univ.image fun j => (Proc.scVector (cV i) (jV i)).devRef (scratch j))
      fun b => iprop(∃ f, ((d, b) : Loc nD τ sig) ↦{fullShare} f))
    ∗ bigSep (ownCells (thr d i) \ Finset.univ.image fun j => ((thr d i, semAt j) : GSem nD τ sig)) fun g => semVal g 0)

/-- What a tile owns at launch is its four buffers idle, and what the kernel leaves alone. -/
theorem own_split : (iprop(ownBufs (thr d i) ∗ ownSems0 (thr d i)) : sProp 𝕄)
    ⊣⊢ iprop((inIdle d i 0 ∗ inIdle d i 1 ∗ outIdle d i 0 ∗ outIdle d i 1) ∗ spare d i) := by
  unfold ownBufs ownSems0 spare inIdle outIdle
  rw [four_of (fun j => (Proc.scVector (cV i) (jV i)).devRef (scratch j)) (fun a b h => scratch_injective (Proc.devRef_injective _ h))
      (fun j => SparseCore.Cfg.mem_ownRefs_of_owner (by fin_cases j <;> rfl)),
    four_of (s := ownCells (thr d i)) (fun j => ((thr d i, semAt j) : GSem nD τ sig)) (fun a b h => semAt_injective (Prod.mk.inj h).2)
      (fun j => mem_ownCells.mpr ⟨rfl, semAt_scoped j⟩)]
  constructor
  · iintro ⟨⟨⟨Hb0, Hb1, Hb2, Hb3⟩, Hb⟩, ⟨Hs0, Hs1, Hs2, Hs3⟩, Hs⟩
    isplitr [Hb Hs]
    · isplitl [Hb0 Hs0]
      · isplitl [Hb0]; · iexact Hb0
        iexact Hs0
      isplitl [Hb1 Hs1]
      · isplitl [Hb1]; · iexact Hb1
        iexact Hs1
      isplitl [Hb2 Hs2]
      · isplitl [Hb2]; · iexact Hb2
        iexact Hs2
      isplitl [Hb3]; · iexact Hb3
      iexact Hs3
    · isplitl [Hb]; · iexact Hb
      iexact Hs
  · iintro ⟨⟨⟨Hb0, Hs0⟩, ⟨Hb1, Hs1⟩, ⟨Hb2, Hs2⟩, Hb3, Hs3⟩, Hb, Hs⟩
    isplitr [Hs0 Hs1 Hs2 Hs3 Hs]
    · isplitr [Hb]
      · isplitl [Hb0]; · iexact Hb0
        isplitl [Hb1]; · iexact Hb1
        isplitl [Hb2]; · iexact Hb2
        iexact Hb3
      · iexact Hb
    · isplitr [Hs]
      · isplitl [Hs0]; · iexact Hs0
        isplitl [Hs1]; · iexact Hs1
        isplitl [Hs2]; · iexact Hs2
        iexact Hs3
      · iexact Hs

variable [FloatOps F] (X : Buf (Elt F) (xLoc d))

/-- What a tile takes: its blocks of the transposed input and of the result; and what it brings back. -/
def takes : sProp 𝕄 := iprop(bigSep Finset.univ (xPiece d i X) ∗ bigSep Finset.univ (oRaw d i))
/-- What a tile brings back: its blocks of the transposed input, and its blocks of the result finished. -/
def brings : sProp 𝕄 := iprop(bigSep Finset.univ (xPiece d i X) ∗ bigSep Finset.univ (oDone d i X))

/-- The kernel function on one tile. -/
theorem tile_body (O : CellTallies nD τ sig (HIx 1)) (W : Waits sig (HIx 1)) (hO : ∀ g, O g none = 0) :
    iprop(levAts (K (F := F)).L (K (F := F)).lev ∗ emp ∗ takes d i X ∗ scopedBufs (thr d i) ∗ scopedSems0 (thr d i) ∗ owes (thr d i) O W)
      ⊢ WP d i (kernelFn i) fun _ => iprop(brings d i X ∗ scopedBufs (thr d i) ∗ scopedSems0 (thr d i)
          ∗ ∃ W', ⌜∀ p ∈ W', p ∈ W ∨ p.2 = none⌝ ∗ owes (thr d i) O W') := by
  rw [kernelFn_eq, (K (F := F)).scopedBufs_V facts d (cV i) (jV i), SparseCore.Cfg.scopedSems0_V (Val := Elt F) d (cV i) (jV i)]
  refine (Spec.conseq ((script_run (X := X) (O := O) (W := W)).frame (spare d i)) ?_ .rfl).trans (wp_mono _ _ _ fun _ => ?_)
  · unfold takes own
    iintro ⟨#Hlv, -, Ht, Hb, Hs, HO⟩
    ihave H := (own_split (F := F) d i).1 $$ [Hb Hs]
    · isplitl [Hb] <;> iassumption
    icases H with ⟨Hidle, Hspare⟩
    isplitr [Hspare]
    · isplitl [Hidle]; · iexact Hidle
      isplitl [Ht]; · iexact Ht
      isplitr
      · iapply ((K (F := F)).mayWaits_none (thr := thr d i) hO); iexact Hlv
      · iexists W
        isplitr
        · ipureintro; exact fun p hp => .inl hp
        · iexact HO
    · iexact Hspare
  · unfold brings own
    iintro ⟨⟨Hidle, Ht, -, HO⟩, Hspare⟩
    ihave H := (own_split (F := F) d i).2 $$ [Hidle Hspare]
    · isplitl [Hidle] <;> iassumption
    icases H with ⟨Hb, Hs⟩
    isplitl [Ht]; · iexact Ht
    isplitl [Hb]; · iexact Hb
    isplitl [Hs]; · iexact Hs
    iexact HO

end Tile

/-! ## The division into blocks -/

/-- The tile on SparseCore `c`, subcore `s`. -/
def tileAt (c : Fin 2) (s : Fin 16) : grid0.Coords :=
  fun | 0 => c | 1 => s | ⟨_ + 2, h⟩ => absurd h (Nat.not_lt.2 (Nat.le_add_left _ _))

/-- The block numbers of a tile. -/
theorem pos_tileAt (c : Fin 2) (s : Fin 16) (kk : Fin 21) : pos (tileAt c s) kk = 21 * (2 * s.val + c.val) + kk.val := rfl

/-- Every number below 672 is one block of one tile. -/
theorem exists_block (n : ℕ) (h : n < 672) : ∃ (c : Fin 2) (s : Fin 16) (kk : Fin 21), pos (tileAt c s) kk = n :=
  ⟨⟨n / 21 % 2, by omega⟩, ⟨n / 42, by omega⟩, ⟨n % 21, by omega⟩, by rw [pos_tileAt]; show 21 * (2 * (n / 42) + n / 21 % 2) + n % 21 = n; omega⟩

/-- Distinct blocks have distinct numbers. -/
theorem pos_injective (a b : Fin 2 × Fin 16 × Fin 21) (h : pos (tileAt a.1 a.2.1) a.2.2 = pos (tileAt b.1 b.2.1) b.2.2) : a = b := by
  obtain ⟨c, s, kk⟩ := a
  obtain ⟨c', s', kk'⟩ := b
  simp only [pos_tileAt] at h
  have := c.isLt; have := c'.isLt; have := kk.isLt; have := kk'.isLt
  simp only [Prod.mk.injEq, Fin.ext_iff]
  omega

/-- An array whose entries each carry a number below 672 is, block by block, the entries carrying that block's number. -/
theorem pts_blocks (ℓ : Loc nD τ sig) (g : Idx ℓ → ℕ) (hg : ∀ z, g z < 672) (f : Buf (Elt F) ℓ) :
    (ℓ ↦{fullShare} f : sProp 𝕄) = bigSep Finset.univ fun c : Fin 2 => bigSep Finset.univ fun s : Fin 16 => bigSep Finset.univ fun kk : Fin 21 =>
      ℓ ↦[Finset.univ.filter fun z => g z = pos (tileAt c s) kk]{fullShare} f := by
  have hb := pointsTo_biUnion (Ix := HIx 1) (Name := ℕ) (U := UU) (Lvl := ℕ) (Val := Elt F) (ℓ := ℓ) (q := fullShare) (f := f)
    ((Finset.univ : Finset (Fin 2)) ×ˢ ((Finset.univ : Finset (Fin 16)) ×ˢ (Finset.univ : Finset (Fin 21))))
    (fun t => Finset.univ.filter fun z => g z = pos (tileAt t.1 t.2.1) t.2.2)
    (fun a _ b _ hab => Finset.disjoint_left.mpr fun z ha hb =>
      hab (pos_injective a b ((Finset.mem_filter.mp ha).2.symm.trans (Finset.mem_filter.mp hb).2)))
  simp only [SparseCore.bigSep_product] at hb
  refine Eq.trans (congrArg (fun I => (ℓ ↦[I]{fullShare} f : sProp 𝕄)) ?_) hb
  ext z
  simp only [Finset.mem_univ, Finset.mem_biUnion, Finset.mem_filter, true_and, Finset.mem_product, true_iff]
  obtain ⟨c, s, kk, h⟩ := exists_block (g z) (hg z)
  exact ⟨(c, s, kk), h.symm⟩

section Pieces

variable [FloatOps F] (d : Dev nD)

/-- The block an entry of the transposed input, or of the result, lies in. -/
def xNum (z : S3x224x224x128.Idx) : ℕ := (z 0).val * 224 + (z 1).val
/-- The block an entry of the result lies in. -/
def oNum (z : S3x32x224x224.Idx) : ℕ := (z 0).val * 224 + (z 2).val

/-- There are 672 blocks of the transposed input. -/
theorem xNum_lt (z : S3x224x224x128.Idx) : xNum z < 672 := by
  have h0 : (z 0).val < 3 := (z 0).isLt
  have h1 : (z 1).val < 224 := (z 1).isLt
  unfold xNum; omega
/-- There are 672 blocks of the result. -/
theorem oNum_lt (z : S3x32x224x224.Idx) : oNum z < 672 := by
  have h0 : (z 0).val < 3 := (z 0).isLt
  have h1 : (z 2).val < 224 := (z 2).isLt
  unfold oNum; omega

/-- The entries of the transposed input that carry a block's number are the block's. -/
theorem xNum_eq (i : grid0.Coords) (kk : Fin 21) (z : S3x224x224x128.Idx) : xNum z = pos i kk ↔ ∃ x, xIx i kk x = z := by
  have h1 : (z 1).val < 224 := (z 1).isLt
  constructor
  · intro h
    unfold xNum at h
    refine ⟨fun a => match a with | 0 => z 2 | 1 => z 3, funext fun a => ?_⟩
    fin_cases a
    · exact Fin.ext (show pos i kk / 224 = (z 0).val by omega)
    · exact Fin.ext (show pos i kk % 224 = (z 1).val by omega)
    · rfl
    · rfl
  · rintro ⟨x, rfl⟩
    show pos i kk / 224 * 224 + pos i kk % 224 = _
    omega
/-- The entries of the result that carry a block's number are the block's. -/
theorem oNum_eq (i : grid0.Coords) (kk : Fin 21) (z : S3x32x224x224.Idx) : oNum z = pos i kk ↔ ∃ y, oIx i kk y = z := by
  have h1 : (z 2).val < 224 := (z 2).isLt
  constructor
  · intro h
    unfold oNum at h
    refine ⟨fun a => match a with | 0 => z 1 | 1 => z 3, funext fun a => ?_⟩
    fin_cases a
    · exact Fin.ext (show pos i kk / 224 = (z 0).val by omega)
    · rfl
    · exact Fin.ext (show pos i kk % 224 = (z 2).val by omega)
    · rfl
  · rintro ⟨x, rfl⟩
    show pos i kk / 224 * 224 + pos i kk % 224 = _
    omega

/-- A block's slice is the entries carrying its number. -/
theorem xSl_set (i : grid0.Coords) (kk : Fin 21) : (xSl i kk).view.set = Finset.univ.filter fun z : S3x224x224x128.Idx => xNum z = pos i kk := by
  ext z
  simp only [Finset.mem_filter, Finset.mem_univ, true_and, xNum_eq]
  exact ⟨fun h => by obtain ⟨x, -, e⟩ := Finset.mem_map.mp h; exact ⟨x, (xSl_emb i kk x).symm.trans e⟩,
    fun ⟨x, e⟩ => Finset.mem_map.mpr ⟨x, Finset.mem_univ _, (xSl_emb i kk x).trans e⟩⟩
/-- A block's slice of the result is the entries carrying its number. -/
theorem oSl_set (i : grid0.Coords) (kk : Fin 21) : (oSl i kk).view.set = Finset.univ.filter fun z : S3x32x224x224.Idx => oNum z = pos i kk := by
  ext z
  simp only [Finset.mem_filter, Finset.mem_univ, true_and, oNum_eq]
  exact ⟨fun h => by obtain ⟨x, -, e⟩ := Finset.mem_map.mp h; exact ⟨x, (oSl_emb i kk x).symm.trans e⟩,
    fun ⟨x, e⟩ => Finset.mem_map.mpr ⟨x, Finset.mem_univ _, (oSl_emb i kk x).trans e⟩⟩

/-- The whole arrays, block by block. -/
theorem xPts_blocks (X : Buf (Elt F) (xLoc d)) : (xLoc d ↦{fullShare} X : sProp 𝕄)
    = bigSep Finset.univ fun c : Fin 2 => bigSep Finset.univ fun s : Fin 16 => bigSep Finset.univ (xPiece d (tileAt c s) X) := by
  rw [pts_blocks (xLoc d) xNum xNum_lt]
  refine bigSep_congr fun c _ => bigSep_congr fun s _ => bigSep_congr fun kk _ => ?_
  unfold xPiece
  rw [xSl_set]
  rfl
/-- The whole result, block by block. -/
theorem oPts_blocks (f : Buf (Elt F) (oLoc d)) : (oLoc d ↦{fullShare} f : sProp 𝕄)
    = bigSep Finset.univ fun c : Fin 2 => bigSep Finset.univ fun s : Fin 16 => bigSep Finset.univ fun kk => oPiece d (tileAt c s) kk f := by
  rw [pts_blocks (oLoc d) oNum oNum_lt]
  refine bigSep_congr fun c _ => bigSep_congr fun s _ => bigSep_congr fun kk _ => ?_
  unfold oPiece
  rw [oSl_set]
  rfl

variable (X : Buf (Elt F) (xLoc d))

/-- The result at any contents, block by block. -/
theorem oRaw_intro (f : Buf (Elt F) (oLoc d)) : (oLoc d ↦{fullShare} f : sProp 𝕄)
    ⊢ bigSep Finset.univ fun c : Fin 2 => bigSep Finset.univ fun s : Fin 16 => bigSep Finset.univ (oRaw (F := F) d (tileAt c s)) := by
  rw [oPts_blocks]
  refine bigSep_mono fun c _ => bigSep_mono fun s _ => bigSep_mono fun kk _ => ?_
  show oPiece d (tileAt c s) kk f ⊢ oRaw (F := F) d (tileAt c s) kk
  iintro H
  iexists f
  iexact H

/-- The two arrays give every tile what it takes. -/
theorem takes_intro : iprop((xLoc d ↦{fullShare} X) ∗ ∃ f, oLoc d ↦{fullShare} f)
    ⊢ (bigSep Finset.univ fun c : Fin 2 => bigSep Finset.univ fun s : Fin 16 => takes d (tileAt c s) X : sProp 𝕄) := by
  unfold takes
  simp only [bigSep_sep']
  rw [xPts_blocks]
  iintro ⟨Hx, %f, Ho⟩
  isplitl [Hx]; · iexact Hx
  iapply (oRaw_intro d f) $$ Ho

/-- What the tiles bring back is the two arrays, the result's entries all picked. -/
theorem brings_eq : (bigSep Finset.univ fun c : Fin 2 => bigSep Finset.univ fun s : Fin 16 => brings d (tileAt c s) X : sProp 𝕄)
    = iprop((xLoc d ↦{fullShare} X) ∗ oLoc d ↦{fullShare} picked X) := by
  unfold brings
  simp only [bigSep_sep']
  rw [xPts_blocks, oPts_blocks]

end Pieces

end Cert.Proof.Sample

end
-- ==== Proof.Run.lean ====
/-
  The launch theorem's obligations, @main, and the run of the whole program: it ends with the argument unchanged, every
  semaphore at zero, and each entry of the result the argument's entry of the kept frame.
-/
module

public import proofs.«01_k».proof.Proof.Launch

@[expose] public section

set_option synthInstance.maxSize 4096

noncomputable section

namespace Cert.Proof.Sample

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call carries -/

/-- @main's one host operation, and the input it makes of the argument: channels last. -/
abbrev opFlip : HloOp τ sig (Elt F) :=
  unary main_arg0 main_v0 ((transpose S3x224x224x128 [0, 2, 3, 1] · transposes_S3x128x224x224_S3x224x224x128_0_2_3_1) :
    (⟨S3x128x224x224, .f32⟩ : BufTy).Contents (Elt F) → (⟨S3x224x224x128, .f32⟩ : BufTy).Contents (Elt F))
/-- The transposed input on device `d`, channels last, made of the argument. -/
def flipped (d : Dev nD) : Buf (Elt F) (xLoc d) :=
  transpose S3x224x224x128 [0, 2, 3, 1] (m (aLoc d) : S3x128x224x224.Idx → F .f32) transposes_S3x128x224x224_S3x224x224x128_0_2_3_1

/-- A SparseCore's share is its sixteen tiles' shares. -/
abbrev coreTakes (d : Dev nD) (c : Fin 2) : sProp 𝕄 := bigSep Finset.univ fun s : Fin 16 => takes d (tileAt c s) (flipped m d)
/-- What a SparseCore brings back is what its sixteen tiles bring back. -/
abbrev coreBrings (d : Dev nD) (c : Fin 2) : sProp 𝕄 := bigSep Finset.univ fun s : Fin 16 => brings d (tileAt c s) (flipped m d)

/-- What the handshakes carry: to a SparseCore and to a tile what it takes, and back what it brings. -/
def P : (K (F := F)).Pay (nD := nD) (Val := Elt F) (Name := ℕ) (U := UU) where
  st := fun q d c => match q with | 0 => coreTakes m d c
  dn := fun q d c => match q with | 0 => coreBrings m d c
  go := fun q d c s => match q with | 0 => takes d (tileAt c s) (flipped m d)
  td := fun q d c s => match q with | 0 => brings d (tileAt c s) (flipped m d)
  x := fun _ _ => iprop(emp)

/-- What a tile takes can be carried by a handshake. -/
instance takes_storable (d : Dev nD) (i : grid0.Coords) (X : Buf (Elt F) (xLoc d)) : BI.Storable (upEmb : UEmb _ 𝕄) (takes d i X) := by
  unfold takes; infer_instance
/-- What a tile brings back can be carried by a handshake. -/
instance brings_storable (d : Dev nD) (i : grid0.Coords) (X : Buf (Elt F) (xLoc d)) : BI.Storable (upEmb : UEmb _ 𝕄) (brings d i X) := by
  unfold brings; infer_instance

/-- All that the handshakes carry can be carried. -/
instance P_storable : (P (F := F) m).IsStorable where
  st q d c := match q with | 0 => (inferInstance : BI.Storable (upEmb : UEmb _ 𝕄) (coreTakes m d c))
  dn q d c := match q with | 0 => (inferInstance : BI.Storable (upEmb : UEmb _ 𝕄) (coreBrings m d c))
  go q d c s := match q with | 0 => (inferInstance : BI.Storable (upEmb : UEmb _ 𝕄) (takes d (tileAt c s) (flipped m d)))
  td q d c s := match q with | 0 => (inferInstance : BI.Storable (upEmb : UEmb _ 𝕄) (brings d (tileAt c s) (flipped m d)))

/-! ## The launch theorem's obligations -/

/-- The task of a tile is the kernel function at the tile's grid point. -/
theorem defs₀_vector (c : Fin τ.nSC) (s : Fin τ.nSub) :
    defs₀ (F := F) (.scVector c s) 0 () = SparseCore.onTile hcore0 hsub0 (fun c s => kernelFn (tileAt c s)) ⟨⟩ c s := rfl

/-- Waits of a tile's own copies are among the waits that the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs its task from what it takes to what it brings back. -/
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d (tileAt ⟨_, hc.1⟩ ⟨_, hc.2⟩) (flipped m d) O W hO).trans (wp_mono _ _ _ fun _ => obl_post)

/-- A SparseCore hands its tiles what it was given, and hands back what they bring. -/
theorem vecSplit : (K (F := F)).VecSplit' (P m) 0 := by
  intro d c
  show coreTakes m d c ⊢ |={Set.univ}=> iprop(coreTakes m d c ∗ (coreBrings m d c -∗ coreBrings m d c))
  iintro H; imodintro
  isplitl [H]; · iexact H
  iintro H
  iexact H

/-! ## The launch element: the handshakes' rounds -/

/-- Nothing, many times, is nothing. -/
theorem bigSep_nothing {I : Type} (s : Finset I) : (bigSep s fun _ => iprop(emp)) = (iprop(emp) : sProp 𝕄) := bigSep_emp_const s

/-- The ghost state at launch: the handshakes' rounds, no copy in flight. -/
def u₀ : UU := (initOf (K (F := F)).hsCells (K (F := F)).hsToks, 1)

/-- The launch's ghost state gives the handshakes their rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## @main on the TensorCore -/

/-- The argument. -/
abbrev a' : DevRef τ sig := Proc.devRef .tc (main_arg0 : Ref sig .tc)
/-- The transposed input. -/
abbrev x' : DevRef τ sig := Proc.devRef .tc (main_v0 : Ref sig .tc)
/-- The result. -/
abbrev o' : DevRef τ sig := Proc.devRef .tc (main_v1 : Ref sig .tc)
/-- The three arrays of @main. -/
abbrev S3 : Finset (DevRef τ sig) := {a', x', o'}

/-- Holding the three arrays is holding each. -/
theorem held_S3 (d : Dev nD) (W : Valuation τ sig (Elt F)) :
    (held (T d) S3 W : sProp 𝕄) = iprop((aLoc d ↦{fullShare} W a') ∗ (xLoc d ↦{fullShare} W x') ∗ oLoc d ↦{fullShare} W o') := by
  unfold held S3
  rw [SparseCore.bigSep_insert' (by decide), SparseCore.bigSep_insert' (by decide), bigSep_singleton]

/-- What the launch leaves @main is the three arrays at their first contents. -/
theorem unscoped_held (d : Dev nD) : (unscopedBufs d (fun b => m ((SparseCore.T d).loc b)) : sProp 𝕄) = held (T d) S3 (fun b => m (d, b)) := by
  rw [held_S3]
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- After the transpose: the argument as it was, the transposed input, the result untouched. -/
theorem held_flipped (d : Dev nD) : (held (T d) S3 ((opFlip (F := F)).result fun b => m (d, b)) : sProp 𝕄)
    = iprop((aLoc d ↦{fullShare} m (aLoc d)) ∗ (xLoc d ↦{fullShare} flipped m d) ∗ oLoc d ↦{fullShare} m (oLoc d)) := by
  have ha : (opFlip (F := F)).result (fun b => m (d, b)) a' = m (aLoc d) := HloOp.result_of_not_mem _ _ (show a' ∉ ({x'} : Finset (DevRef τ sig)) by decide)
  have ho : (opFlip (F := F)).result (fun b => m (d, b)) o' = m (oLoc d) := HloOp.result_of_not_mem _ _ (show o' ∉ ({x'} : Finset (DevRef τ sig)) by decide)
  have hx : (opFlip (F := F)).result (fun b => m (d, b)) x' = flipped m d := unary_result ..
  rw [held_S3, ha, hx, ho]

/-- The transpose touches two of the three arrays. -/
theorem hFlip : (opFlip (F := F)).bufs ⊆ S3 := show ({a', x'} : Finset (DevRef τ sig)) ⊆ S3 by decide

/-- What the call's handshakes take, as the SparseCores' shares. -/
theorem st0_eq (d : Dev nD) : (bigSep Finset.univ fun c : Fin ((K (F := F)).nCore 0) => (P m).st 0 d c) = bigSep Finset.univ (coreTakes m d) := rfl
/-- What the call's handshakes bring back, as the SparseCores' shares. -/
theorem dn0_eq (d : Dev nD) : (bigSep Finset.univ fun c : Fin ((K (F := F)).nCore 0) => (P m).dn 0 d c) = bigSep Finset.univ (coreBrings m d) := rfl

/-- What @main leaves: the argument as it was, and every entry of the result picked. -/
abbrev FIN (d : Dev nD) : sProp 𝕄 := iprop((aLoc d ↦{fullShare} m (aLoc d)) ∗ oLoc d ↦{fullShare} picked (flipped m d))

/-- @main on device `d`'s TensorCore: the transpose, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlip) (S := S3) hFlip (V := fun b => m (d, b))) $$ [Hb Hheld]
  · isplitl [Hb] <;> iassumption
  iintro ⟨Hb, Hheld⟩
  ihave Hh := (Entails.of_eq (held_flipped m d)) $$ Hheld
  icases Hh with ⟨Ha, Hx, Ho⟩
  rw [wp_ret]; imodintro
  iapply ((K (F := F)).wp_run (D (F := F)) 𝒱 (EH := EH) (P := P m) κ d 0) $$ [Hst Ha Hx Ho Hb Hts]
  isplitr; · iexact Hctx
  isplitl [Hst]; · iexact Hst
  isplitl [Hx Ho]
  · rw [st0_eq]
    iapply (takes_intro d (flipped m d)) $$ [Hx Ho]
    isplitl [Hx]; · iexact Hx
    iexists _; iexact Ho
  iintro ⟨Hst, Hdn⟩
  ihave Hdn' := (Entails.of_eq ((dn0_eq m d).trans (brings_eq d (flipped m d)))) $$ Hdn
  icases Hdn' with ⟨-, Ho⟩
  imodintro
  isplitl [Hst]; · iexact Hst
  isplitr [Hb Hts]
  · isplitl [Ha]; · iexact Ha
    iexact Ho
  isplitl [Hb] <;> iassumption

/-- A final memory with the result picked and the argument unchanged. -/
def fq (d : Dev nD) (s' : Phys nD τ sig (Elt F)) : Prop := s'.mem.mem (oLoc d) = picked (flipped m d) ∧ s'.mem.mem (aLoc d) = m (aLoc d)

/-- What @main leaves says so of the final memory. -/
theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := picked (flipped m d))) $$ [HSI Ho]
  · isplitl [HSI] <;> iassumption
  icases H with %h2
  ipureintro; exact ⟨funext fun i => h2 i (Finset.mem_univ i), funext fun i => h1 i (Finset.mem_univ i)⟩

/-! ## The program's run -/

/-- How the program ends: on every device the result picked and the argument unchanged, and every semaphore at zero. -/
def QC : PUnit × MemSt nD τ sig (Elt F) → Prop :=
  fun r => (∀ c : Dev nD, r.2.mem (oLoc c) = picked (flipped m c) ∧ r.2.mem (aLoc c) = m (aLoc c)) ∧ r.2.sem = fun _ => 0

/-- Every execution of the program ends, with the result picked from the transposed argument, the argument unchanged and
    every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The value -/

/-- The entry of the argument that an entry of the result is a copy of: the same but for the frame, `s * 127 / 31`. -/
def source (y : S3x32x224x224.Idx) : S3x128x224x224.Idx
  | 0 => y 0
  | 1 => ⟨(y 1).val * 127 / 31, by have h : (y 1).val < 32 := (y 1).isLt; show _ < 128; omega⟩
  | 2 => y 2
  | 3 => y 3

/-- Picking from the transposed argument is reading the argument at `source`. -/
theorem picked_flipped (d : Dev nD) (y : S3x32x224x224.Idx) : picked (flipped m d) y = (m (aLoc d) : S3x128x224x224.Idx → F .f32) (source y) := by
  show (m (aLoc d) : S3x128x224x224.Idx → F .f32) (Shape.Transposes.src _ (kept y)) = _
  congr 1
  funext a
  fin_cases a <;> rfl

end Cert.Proof.Sample

end
-- ==== Proof.Reference.lean ====
/-
  The reference's result over exact numbers. It samples 32 frame numbers evenly over [0, 127], rounds each toward zero,
  and takes those frames of the argument. Here: sample `s` is the real number 127·s/31, its frame number is the whole
  part of it, so no number is out of range, and the result's entry (c, s, h, w) is the argument's entry
  (c, 127·s/31 rounded down, h, w).
-/
module

public import proofs.«01_k».proof.Proof.Gen.ReferenceIdeal.Run
public import Idealize.ShloMosaic.PureOps.Ideal
public import Idealize.ShloMosaic.PureOps.Ideal.Laws
public import Idealize.ShloMosaic.PureOps.Reduce
public import Idealize.ShloMosaic.Lib.IdealHost
public import Idealize.ShloMosaic.Lib.Pipeline.Value

@[expose] public section

noncomputable section

namespace Cert.Proof.Reference

open Cert.ReferenceIdeal Cert.ReferenceIdeal.Gen Idealize.ShloMosaic

/-! ## The sample points -/

/-- Sample `i` of the first 31, as a fraction of the range: `i / 31`. -/
def fraction : S31.Idx → Ideal .f32 :=
  Host.divf (sitofp .f32 (iotaInDim S31 32 0)) (broadcastInDim S31 ![] bcast_S_S31 (constant S_ .f32 0x41F80000#32))

/-- The first 31 samples: the two ends of the range weighted by the fraction. -/
def early : S31.Idx → Ideal .f32 :=
  addf (mulf (broadcastInDim S31 ![0] bcast_S1_S31_0 (shapeCast _ (id (constant S_ .f32 0x00000000#32)) shapeCasts_S_S1))
      (subf (broadcastInDim S31 ![] bcast_S_S31 (constant S_ .f32 0x3F800000#32)) fraction))
    (mulf (broadcastInDim S31 ![0] bcast_S1_S31_0 (shapeCast _ (id (constant S_ .f32 0x42FE0000#32)) shapeCasts_S_S1)) fraction)

/-- The last sample: the range's upper end. -/
def late : S1.Idx → Ideal .f32 := broadcastInDim S1 ![] bcast_S_S1 (id (constant S_ .f32 0x42FE0000#32))

/-- All 32 samples. -/
def samples : S32.Idx → Ideal .f32 := concatenate S32 0 [⟨S31, early⟩, ⟨S1, late⟩] concatenates_S31_S1_S32_d0

/-- The frame numbers: the samples clipped to the range and rounded toward zero. -/
def frames : S32.Idx → BitVec 32 :=
  fptosi 32 (minimumf (broadcastInDim S32 ![] bcast_S_S32 (id (constant S_ .f32 0x42FE0000#32)))
    (maximumf (broadcastInDim S32 ![] bcast_S_S32 (id (constant S_ .f32 0x00000000#32))) samples))

/-- The word the reference writes 127 with denotes 127. -/
theorem top_value : Ideal.ofBits .f32 0x42FE0000#32 = ((127 : ℝ) : EReal) := by
  simp [Ideal.ofBits, Ideal.ieee, -EReal.coe_mul]; norm_num

/-- The word the reference writes 31 with denotes 31. -/
theorem steps_value : Ideal.ofBits .f32 0x41F80000#32 = ((31 : ℝ) : EReal) := by
  simp [Ideal.ofBits, Ideal.ieee, -EReal.coe_mul]; norm_num

/-- Entry `i` of the fractions is the real `i / 31`. -/
theorem fraction_apply (i : S31.Idx) : fraction i = ((((i 0).val : ℝ) / 31 : ℝ) : EReal) := by
  have hi : (i 0).val < 31 := (i 0).isLt
  have hn : (BitVec.ofNat 32 (i 0).val).toInt = ((i 0).val : ℤ) := by
    rw [BitVec.toInt_eq_toNat_of_lt (by simp only [BitVec.toNat_ofNat]; omega), BitVec.toNat_ofNat, Nat.mod_eq_of_lt (by omega)]
  show Ideal.div ((((BitVec.ofNat 32 (i 0).val).toInt : ℝ)) : EReal) (Ideal.ofBits .f32 0x41F80000#32) = _
  rw [hn, steps_value, Ideal.div_coe (by norm_num), ← EReal.coe_mul]
  congr 1
  push_cast
  ring

/-- Entry `i` of the first 31 samples is the real `127 · i / 31`. -/
theorem early_apply (i : S31.Idx) : early i = ((127 * ((i 0).val : ℝ) / 31 : ℝ) : EReal) := by
  show Ideal.ofBits .f32 0x00000000#32 * (Ideal.ofBits .f32 0x3F800000#32 - fraction i)
    + Ideal.ofBits .f32 0x42FE0000#32 * fraction i = _
  rw [fraction_apply, top_value, Ideal.ofBits_zero_f32, zero_mul, zero_add, ← EReal.coe_mul]
  congr 1
  ring

/-- Entry `s` of the samples is the real `127 · s / 31`. -/
theorem samples_apply (s : S32.Idx) : samples s = ((127 * ((s 0).val : ℝ) / 31 : ℝ) : EReal) := by
  have hs : (s 0).val < 32 := (s 0).isLt
  by_cases h : (s 0).val < 31
  · refine (concatenate_pair_apply_left (t := S32) (s₁ := S31) (s₂ := S1) 0 early late concatenates_S31_S1_S32_d0 s rfl
      (fun b => match b with | ⟨0, _⟩ => ⟨(s 0).val, h⟩) (fun b => ?_)).trans (early_apply _)
    match b with | ⟨0, _⟩ => rfl
  · refine (concatenate_pair_apply_right (t := S32) (s₁ := S31) (s₂ := S1) 0 early late concatenates_S31_S1_S32_d0 s rfl rfl
      (fun b => match b with | ⟨0, _⟩ => ⟨0, Nat.one_pos⟩) (fun b hb => ?_) ?_).trans ?_
    · exact absurd (Subsingleton.elim _ _) hb
    · show 0 + 31 = (s 0).val
      omega
    · have h31 : (s 0).val = 31 := by omega
      show Ideal.ofBits .f32 0x42FE0000#32 = _
      rw [top_value, h31]
      congr 1
      norm_num

/-- The real `127 · n / 31`, for `n` below 32, rounded toward zero to a word is the whole part of it. -/
theorem whole_part (n : ℕ) (hn : n < 32) : Ideal.fptosi 32 ((127 * (n : ℝ) / 31 : ℝ) : EReal) = BitVec.ofNat 32 (n * 127 / 31) := by
  have hf : ⌊(127 * (n : ℝ) / 31 : ℝ)⌋ = ((n * 127 / 31 : ℕ) : ℤ) := by
    rw [Int.floor_eq_iff]
    have hd := Nat.div_add_mod (n * 127) 31
    have hm := Nat.mod_lt (n * 127) (show 0 < 31 by norm_num)
    have hr : (31 : ℝ) * ((n * 127 / 31 : ℕ) : ℝ) + ((n * 127 % 31 : ℕ) : ℝ) = n * 127 := by exact_mod_cast hd
    have hm' : ((n * 127 % 31 : ℕ) : ℝ) < 31 := by exact_mod_cast hm
    have h0 : (0 : ℝ) ≤ ((n * 127 % 31 : ℕ) : ℝ) := Nat.cast_nonneg _
    rw [Int.cast_natCast]
    constructor
    · rw [le_div_iff₀ (by norm_num)]; linarith
    · rw [div_lt_iff₀ (by norm_num)]; linarith
  have hb : n * 127 / 31 ≤ 127 := by omega
  rw [Ideal.fptosi, Ideal.toIntClamped_coe, if_pos (by positivity), hf]
  rw [show max (-((2 ^ (32 - 1) : ℕ) : ℤ)) (min (((2 ^ (32 - 1) : ℕ) : ℤ) - 1) ((n * 127 / 31 : ℕ) : ℤ)) = ((n * 127 / 31 : ℕ) : ℤ) by
    norm_num; omega]
  exact BitVec.ofInt_natCast _ _

/-- Frame number `s` is `127 · s / 31` rounded down. -/
theorem frames_apply (s : S32.Idx) : frames s = BitVec.ofNat 32 ((s 0).val * 127 / 31) := by
  have hs : (s 0).val < 32 := (s 0).isLt
  have hsr : ((s 0).val : ℝ) ≤ 31 := by exact_mod_cast Nat.le_of_lt_succ hs
  show Ideal.fptosi 32 (min (Ideal.ofBits .f32 0x42FE0000#32) (max (Ideal.ofBits .f32 0x00000000#32) (samples s))) = _
  rw [samples_apply, top_value, Ideal.ofBits_zero_f32, max_eq_right (by exact_mod_cast (by positivity : (0:ℝ) ≤ 127 * ((s 0).val : ℝ) / 31)),
    min_eq_right (by rw [EReal.coe_le_coe_iff, div_le_iff₀ (by norm_num)]; linarith)]
  exact whole_part _ hs

/-! ## Taking the frames -/

/-- The frame numbers with a negative one counted from the end, as a column. -/
def column (f : S32.Idx → BitVec 32) : S32x1.Idx → BitVec 32 :=
  broadcastInDim S32x1 ![0] bcast_S32_S32x1_0 (select (cmpi .slt f (broadcastInDim S32 ![] bcast_S_S32 (constantI S_ 32 0#32)))
    (addi f (broadcastInDim S32 ![] bcast_S_S32 (constantI S_ 32 128#32))) f)

/-- Which frame numbers lie in [0, 127], in the column. -/
def marks (ix : S32x1.Idx → BitVec 32) : S32x1.Idx → BitVec 1 :=
  andi (cmpi .sge ix (broadcastInDim S32x1 ![] bcast_S_S32x1 (constantI S_ 32 0#32)))
    (cmpi .sle ix (broadcastInDim S32x1 ![0, 1] bcast_S1x1_S32x1_0_1 (broadcastInDim S1x1 ![1] bcast_S1_S1x1_1 (constantI S1 32 127#32))))

/-- Which frame numbers lie in [0, 127]. -/
def inside (ix : S32x1.Idx → BitVec 32) : S32.Idx → BitVec 1 :=
  Host.reduce IntOp.andi (marks ix) (constantI S_ 1 1#1) reducesTo_S32x1_S32_d1 h_S_

/-- The argument's frames at the column's numbers. -/
def gathered (a : S3x128x224x224.Idx → Ideal .f32) (ix : S32x1.Idx → BitVec 32) : S3x32x224x224.Idx → Ideal .f32 :=
  Host.gather gather_S3x128x224x224_S32x1_S3x32x224x224_023_1_n_n_1_1_31224224 a ix

/-- The reference's last operations: the frames at the numbers `f`, a frame out of range filled. -/
def taken (a : S3x128x224x224.Idx → Ideal .f32) (f : S32.Idx → BitVec 32) : S3x32x224x224.Idx → Ideal .f32 :=
  select (broadcastInDim S3x32x224x224 ![1] bcast_S32_S3x32x224x224_1 (inside (column f))) (gathered a (column f))
    (broadcastInDim S3x32x224x224 ![] bcast_S_S3x32x224x224 (constant S_ .f32 0x7FC00000#32))

/-- The frame numbers as the arithmetic gives them. -/
def numbers : S32.Idx → BitVec 32 := fun s => BitVec.ofNat 32 ((s 0).val * 127 / 31)

/-- The frame numbers of the reference are those. -/
theorem frames_eq : frames = numbers := funext frames_apply

/-- Each of the 32 frame numbers reads as itself, is not negative and is at most 127. -/
theorem number_bounds : ∀ n : Fin 32, (BitVec.ofNat 32 (n.val * 127 / 31)).toInt = ((n.val * 127 / 31 : ℕ) : ℤ)
    ∧ IntOp.cmpi .slt (BitVec.ofNat 32 (n.val * 127 / 31)) 0#32 = 0#1
    ∧ IntOp.cmpi .sge (BitVec.ofNat 32 (n.val * 127 / 31)) 0#32 = 1#1
    ∧ IntOp.cmpi .sle (BitVec.ofNat 32 (n.val * 127 / 31)) 127#32 = 1#1 := by decide

/-- The column's entry in row `s` is frame number `s`. -/
theorem column_apply (i : S32x1.Idx) : column numbers i = BitVec.ofNat 32 ((i 0).val * 127 / 31) := by
  have h := (number_bounds (i 0)).2.1
  show Scalar.select (IntOp.cmpi .slt (BitVec.ofNat 32 ((i 0).val * 127 / 31)) 0#32) _ (BitVec.ofNat 32 ((i 0).val * 127 / 31)) = _
  rw [h]; rfl

/-- Every row of the column is marked in range. -/
theorem marks_apply (i : S32x1.Idx) : marks (column numbers) i = 1#1 := by
  have h := number_bounds (i 0)
  show IntOp.andi (IntOp.cmpi .sge (column numbers i) 0#32) (IntOp.cmpi .sle (column numbers i) 127#32) = _
  rw [column_apply, h.2.2.1, h.2.2.2]; rfl

/-- Every frame number is in range. -/
theorem inside_apply (s : S32.Idx) : inside (column numbers) s = 1#1 := by
  have hm : marks (column numbers) = fun _ => 1#1 := funext marks_apply
  unfold inside
  rw [hm]
  unfold Host.reduce
  generalize List.filter _ _ = l
  induction l with
  | nil => rfl
  | cons x l ih =>
    rw [List.foldl_cons]
    exact (congrArg (fun z => List.foldl (fun (r : BitVec 1) (_ : Fin S32x1.numel) => IntOp.andi r 1#1) z l) (show IntOp.andi 1#1 1#1 = 1#1 by decide)).trans ih

/-- The entry of the argument that an entry of the result is: the sampled frame, everything else the same. -/
def origin (y : S3x32x224x224.Idx) : S3x128x224x224.Idx := fun a =>
  match a with
  | ⟨0, _⟩ => y 0
  | ⟨1, _⟩ => ⟨(y 1).val * 127 / 31, by have : (y 1).val < 32 := (y 1).isLt; show _ < 128; omega⟩
  | ⟨2, _⟩ => y 2
  | ⟨3, _⟩ => y 3

/-- The row of the column that an entry of the result reads its frame number from. -/
def row (y : S3x32x224x224.Idx) : S32x1.Idx := fun b =>
  match b with
  | ⟨0, _⟩ => y 1
  | ⟨1, _⟩ => ⟨0, Nat.one_pos⟩

/-- The way the reference takes frames. -/
abbrev takeFrames : GatherDims S3x128x224x224 S32x1 S3x32x224x224 :=
  gather_S3x128x224x224_S32x1_S3x32x224x224_023_1_n_n_1_1_31224224

/-- On an axis that is not sampled the frame numbers do not matter: the read starts at zero. -/
theorem start_other (y : S3x32x224x224.Idx) (ix : S32x1.Idx → BitVec 32) (a : Fin 4) (ha : a.val ≠ 1) : takeFrames.start y ix a = 0 := by
  unfold GatherDims.start
  exact dif_neg (fun h => ha (congrArg Fin.val (List.mem_singleton.mp h)))

/-- On the sampled axis the read starts at the frame number of the entry's row, held below 128. -/
theorem start_frame (y : S3x32x224x224.Idx) (ix : S32x1.Idx → BitVec 32) :
    takeFrames.start y ix 1 = min (ix (row y)).toInt.toNat 127 := by
  unfold GatherDims.start
  rw [dif_pos (show (1 : Fin 4) ∈ takeFrames.startIndexMap from List.mem_singleton.mpr rfl)]
  refine congrArg (fun k : S32x1.Idx => min (ix k).toInt.toNat 127) (funext fun b => Fin.ext ?_)
  match b with
  | ⟨0, _⟩ => rfl
  | ⟨1, _⟩ => rfl

/-- The gather's entry is the argument's, at the sampled frame. -/
theorem gathered_apply (a : S3x128x224x224.Idx → Ideal .f32) (y : S3x32x224x224.Idx) : gathered a (column numbers) y = a (origin y) := by
  have hy : (y 1).val < 32 := (y 1).isLt
  unfold gathered Host.gather
  refine congrArg a (funext fun b => Fin.ext ?_)
  show takeFrames.start y (column numbers) b + takeFrames.batchCoord y b + takeFrames.offCoord y b = _
  rw [GatherDims.batchCoord_eq_zero _ _ _ List.not_mem_nil, Nat.add_zero]
  match b with
  | ⟨0, _⟩ => rw [start_other _ _ _ (show (0 : ℕ) ≠ 1 by decide), Nat.zero_add]; rfl
  | ⟨1, _⟩ =>
    rw [GatherDims.offCoord_eq_zero _ _ _ (fun h => ((GatherDims.mem_sKept _ _).mp h).1 (List.mem_singleton.mpr rfl)), Nat.add_zero]
    refine (start_frame y _).trans ?_
    rw [column_apply]
    refine (congrArg (fun z : ℤ => min z.toNat 127) (number_bounds (y 1)).1).trans ?_
    show min ((((y 1).val * 127 / 31 : ℕ) : ℤ)).toNat 127 = (y 1).val * 127 / 31
    rw [Int.toNat_natCast]
    omega
  | ⟨2, _⟩ => rw [start_other _ _ _ (show (2 : ℕ) ≠ 1 by decide), Nat.zero_add]; rfl
  | ⟨3, _⟩ => rw [start_other _ _ _ (show (3 : ℕ) ≠ 1 by decide), Nat.zero_add]; rfl

/-- The reference's last operations give the argument's entry of the sampled frame. -/
theorem taken_apply (a : S3x128x224x224.Idx → Ideal .f32) (y : S3x32x224x224.Idx) : taken a numbers y = a (origin y) := by
  have hm : broadcastInDim S3x32x224x224 ![1] bcast_S32_S3x32x224x224_1 (inside (column numbers)) y = 1#1 := inside_apply _
  show Scalar.select _ _ _ = _
  rw [hm]
  exact gathered_apply a y

/-- The reference's result, entry by entry, from the argument it began with. -/
theorem result_apply (m : (ℓ : Loc nD τ sig) → Buf (Elt Ideal) ℓ) (c : Dev nD) (y : S3x32x224x224.Idx) :
    (Value.res_out0 m c : S3x32x224x224.Idx → Ideal .f32) y
      = (m ((c.tc : Thread nD τ).loc main_arg0) : S3x128x224x224.Idx → Ideal .f32) (origin y) := by
  have h : (Value.res_out0 m c : S3x32x224x224.Idx → Ideal .f32)
      = taken (m ((c.tc : Thread nD τ).loc main_arg0) : S3x128x224x224.Idx → Ideal .f32) frames := by
    unfold Value.res_out0 Value.res_main_v3; rfl
  rw [h, frames_eq]
  exact taken_apply _ y

end Cert.Proof.Reference

end
-- ==== Proof.lean ====
/-
  The certificate. The kernel ends with the argument unchanged, every semaphore at zero and the sampled frames in the
  result (Proof/Run.lean), for any float arithmetic; the reference, over exact numbers, ends with the same frames
  (Proof/Reference.lean). Each claim is read off these.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Reference

@[expose] public section

noncomputable section

namespace Cert.Proof

open Idealize.ShloMosaic Idealize.SL.Sem

/-- The kernel over machine floats ends with the argument unchanged and every semaphore at zero. -/
theorem frame_kernel : Cert.quiescent_Kernel := fun m ρ _ =>
  (θ_run Cert.KernelIdeal.defs _ _).mono (fun _ h => ⟨fun c => (h.1 c).2, h.2⟩) (Sample.run_main (F := Bits) m ρ)

/-- The kernel over exact numbers ends with the argument unchanged and every semaphore at zero. -/
theorem frame_ideal : Cert.quiescent_KernelIdeal := fun m ρ _ =>
  (θ_run Cert.KernelIdeal.defs _ _).mono (fun _ h => ⟨fun c => (h.1 c).2, h.2⟩) (Sample.run_main (F := Ideal) m ρ)

/-- The reference over exact numbers ends with the argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results over exact numbers: both results' entries
    are the argument's entries of the sampled frames. -/
theorem agree : Cert.algebraic_KernelIdeal_ReferenceIdeal := fun m ρ m' ρ' _ hsame => by
  refine ⟨fun c => Sample.picked (Sample.flipped m c),
    (θ_run Cert.KernelIdeal.defs _ _).mono (fun _ h => h.1) (Sample.run_main (F := Ideal) m ρ),
    (θ_run Cert.ReferenceIdeal.defs _ _).mono (fun _ h c => ⟨(h c).1.trans (funext fun y => ?_), (h c).2⟩)
      (Cert.ReferenceIdeal.Value.run (F := Ideal) m' ρ')⟩
  refine (Reference.result_apply m' c y).trans (Eq.trans ?_ (Sample.picked_flipped m c y).symm)
  refine (congrFun (hsame c) (Reference.origin y)).trans ?_
  refine congrArg (m (Sample.aLoc c) : Cert.KernelIdeal.S3x128x224x224.Idx → Ideal .f32) (funext fun a => ?_)
  match a with
  | ⟨0, _⟩ => rfl
  | ⟨1, _⟩ => rfl
  | ⟨2, _⟩ => rfl
  | ⟨3, _⟩ => rfl

/-- All five claims. -/
theorem claim : Cert.Claim :=
  ⟨Cert.Kernel.Gen.facts, Cert.KernelIdeal.Gen.facts, Cert.ReferenceIdeal.Gen.facts,
    frame_kernel, frame_ideal, frame_reference, trivial, agree⟩

end Cert.Proof

end
